-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1))) = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite2 [hPre_finite2 : Cert.Pre_finite2.Facts] (m : (ℓ : Loc Cert.DiffIdeal.nD Cert.DiffIdeal.τ Cert.DiffIdeal.sig) → Buf (Elt Ideal) ℓ) : Prop :=
  ∀ c : Dev Cert.DiffIdeal.nD,
    (Cert.Pre_finite2.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite2 [hPre_finite2 : Cert.Pre_finite2.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite2.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffIdeal_pre_finite2 [hDiffIdeal : Cert.DiffIdeal.Facts] [hPre_finite2 : Cert.Pre_finite2.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite2 m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5))
      ∧ r.2.sem = fun _ => 0)

def quiescent_DiffRefIdeal_pre_finite2 [hDiffRefIdeal : Cert.DiffRefIdeal.Facts] [hPre_finite2 : Cert.Pre_finite2.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite2 m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)) →
    ∃ (v0 : (c : Dev Cert.FoxIdeal.nD) → Buf (Elt Ideal) ((c.tc : Thread Cert.FoxIdeal.nD Cert.FoxIdeal.τ).loc Cert.FoxIdeal.main_v1)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v1) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v41) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1))

def preserves_Diff_DiffIdeal : Prop :=
  IdealRules.named_const.Statement Cert.DiffIdeal.κ "mask" .f32 0xF149F2CA#32 ⊥

def algebraic_DiffIdeal_DiffRefIdeal_pre_finite2 [hDiffIdeal : Cert.DiffIdeal.Facts] [hDiffRefIdeal : Cert.DiffRefIdeal.Facts] [hPre_finite2 : Cert.Pre_finite2.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite2 m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)) →
    ∃ (v0 : (c : Dev Cert.DiffIdeal.nD) → Buf (Elt Ideal) ((c.tc : Thread Cert.DiffIdeal.nD Cert.DiffIdeal.τ).loc Cert.DiffIdeal.main_v10)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v10) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v93) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v41) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v13_0)) (v1 : (c : Dev Cert.ProjIdeal.nD) → Buf (Elt Ideal) ((c.tc : Thread Cert.ProjIdeal.nD Cert.ProjIdeal.τ).loc Cert.ProjIdeal.main_v13_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v13_0) = v0 c
          ∧ r.2.mem ((c.tc : Thread Cert.ProjIdeal.nD Cert.ProjIdeal.τ).loc Cert.ProjIdeal.main_v13_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v26) = v0 c
          ∧ r.2.mem ((c.tc : Thread Cert.ProjRefIdeal.nD Cert.ProjRefIdeal.τ).loc Cert.ProjRefIdeal.main_v28) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def Claim : Prop :=
  ∃ (hFox : Cert.Fox.Facts) (hFoxIdeal : Cert.FoxIdeal.Facts) (hFoxRefIdeal : Cert.FoxRefIdeal.Facts) (hDiff : Cert.Diff.Facts) (hDiffIdeal : Cert.DiffIdeal.Facts) (hDiffRefIdeal : Cert.DiffRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hPre_finite : Cert.Pre_finite.Facts) (hPre_finite2 : Cert.Pre_finite2.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_Diff (hDiff := hDiff)
    ∧ quiescent_DiffIdeal (hDiffIdeal := hDiffIdeal)
    ∧ quiescent_DiffIdeal_pre_finite2 (hDiffIdeal := hDiffIdeal) (hPre_finite2 := hPre_finite2)
    ∧ quiescent_DiffRefIdeal (hDiffRefIdeal := hDiffRefIdeal)
    ∧ quiescent_DiffRefIdeal_pre_finite2 (hDiffRefIdeal := hDiffRefIdeal) (hPre_finite2 := hPre_finite2)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ preserves_Fox_FoxIdeal
    ∧ algebraic_FoxIdeal_FoxRefIdeal_pre_finite (hFoxIdeal := hFoxIdeal) (hFoxRefIdeal := hFoxRefIdeal) (hPre_finite := hPre_finite)
    ∧ preserves_Diff_DiffIdeal
    ∧ algebraic_DiffIdeal_DiffRefIdeal_pre_finite2 (hDiffIdeal := hDiffIdeal) (hDiffRefIdeal := hDiffRefIdeal) (hPre_finite2 := hPre_finite2)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
-- ==== Pre_finite.lean ====
abbrev S16384x3072 : Shape := ⟨2, ![16384, 3072]⟩
abbrev S8x16384 : Shape := ⟨2, ![8, 16384]⟩
abbrev S_ : Shape := ⟨0, ![]⟩

class Facts : Prop where
  bitsLt_bf16_f32 : FTy.bits .bf16 < FTy.bits .f32
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S8x16384 : S_.BroadcastsInDim S8x16384 (![] : Fin 0 → Fin S8x16384.rank)
  reducesTo_S8x16384_S_d0_1 : S8x16384.ReducesTo [0, 1] S_

variable [Facts]

def fn {F : FTy → Type} [FloatOps F] (main_arg0 : FVec F S16384x3072 .bf16) (main_arg1 : FVec F S8x16384 .f32) : IVec S_ 1 :=
  let main_v0 : FVec F S16384x3072 .f32 := (extf .f32 · bitsLt_bf16_f32) main_arg0
  let main_cst : FVec F S_ .f32 := constant S_ .f32 0xFF800000#32
  let main_v1 : FVec F S16384x3072 .f32 := broadcastInDim S16384x3072 ![] bcast_S_S16384x3072 main_cst
  let main_v2 : IVec S16384x3072 1 := cmpf .ogt main_v0 main_v1
  let main_cst_0 : FVec F S_ .f32 := constant S_ .f32 0x7F800000#32
  let main_v3 : FVec F S16384x3072 .f32 := broadcastInDim S16384x3072 ![] bcast_S_S16384x3072 main_cst_0
  let main_v4 : IVec S16384x3072 1 := cmpf .olt main_v0 main_v3
  let main_v5 : IVec S16384x3072 1 := andi main_v2 main_v4
  let main_c : IVec S_ 1 := constantI S_ 1 1#1
  let main_v6 : IVec S_ 1 := (fun x v => Host.reduce IntOp.andi x v reducesTo_S16384x3072_S_d0_1 h_S_) main_v5 main_c
  let main_cst_1 : FVec F S_ .f32 := constant S_ .f32 0xFF800000#32
  let main_v7 : FVec F S8x16384 .f32 := broadcastInDim S8x16384 ![] bcast_S_S8x16384 main_cst_1
  let main_v8 : IVec S8x16384 1 := cmpf .ogt main_arg1 main_v7
  let main_cst_2 : FVec F S_ .f32 := constant S_ .f32 0x7F800000#32
  let main_v9 : FVec F S8x16384 .f32 := broadcastInDim S8x16384 ![] bcast_S_S8x16384 main_cst_2
  let main_v10 : IVec S8x16384 1 := cmpf .olt main_arg1 main_v9
  let main_v11 : IVec S8x16384 1 := andi main_v8 main_v10
  let main_c_3 : IVec S_ 1 := constantI S_ 1 1#1
  let main_v12 : IVec S_ 1 := (fun x v => Host.reduce IntOp.andi x v reducesTo_S8x16384_S_d0_1 h_S_) main_v11 main_c_3
  let main_v13 : IVec S_ 1 := andi main_v6 main_v12
  main_v13
-- ==== Pre_finite2.lean ====
abbrev S16384x3072 : Shape := ⟨2, ![16384, 3072]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_v27 : IVec S_ 1) (main_v32 : IVec S1x64 1) (main_c_12 : IVec S_ 1) : IVec S_ 1 :=
  let main_v33 : IVec S_ 1 := (fun x v => Host.reduce IntOp.andi x v reducesTo_S1x64_S_d0_1 h_S_) main_v32 main_c_12
  let main_v34 : IVec S_ 1 := andi main_v27 main_v33
  main_v34

def fn_part1 {F : FTy → Type} [FloatOps F] (main_arg2 : FVec F S1x64 .f32) (main_arg3 : FVec F S1x64 .f32) (main_arg4 : FVec F S1x64 .f32) (main_v13 : IVec S_ 1) (main_v15 : IVec S1x64 1) (main_cst_5 : FVec F S_ .f32) : IVec S_ 1 :=
  let main_v16 : FVec F S1x64 .f32 := broadcastInDim S1x64 ![] bcast_S_S1x64 main_cst_5
  let main_v17 : IVec S1x64 1 := cmpf .olt main_arg2 main_v16
  let main_v18 : IVec S1x64 1 := andi main_v15 main_v17
  let main_c_6 : IVec S_ 1 := constantI S_ 1 1#1
  let main_v19 : IVec S_ 1 := (fun x v => Host.reduce IntOp.andi x v reducesTo_S1x64_S_d0_1 h_S_) main_v18 main_c_6
  let main_v20 : IVec S_ 1 := andi main_v13 main_v19
  let main_cst_7 : FVec F S_ .f32 := constant S_ .f32 0xFF800000#32
  let main_v21 : FVec F S1x64 .f32 := broadcastInDim S1x64 ![] bcast_S_S1x64 main_cst_7
  let main_v22 : IVec S1x64 1 := cmpf .ogt main_arg3 main_v21
  let main_cst_8 : FVec F S_ .f32 := constant S_ .f32 0x7F800000#32
  let main_v23 : FVec F S1x64 .f32 := broadcastInDim S1x64 ![] bcast_S_S1x64 main_cst_8
  let main_v24 : IVec S1x64 1 := cmpf .olt main_arg3 main_v23
  let main_v25 : IVec S1x64 1 := andi main_v22 main_v24
  let main_c_9 : IVec S_ 1 := constantI S_ 1 1#1
  let main_v26 : IVec S_ 1 := (fun x v => Host.reduce IntOp.andi x v reducesTo_S1x64_S_d0_1 h_S_) main_v25 main_c_9
  let main_v27 : IVec S_ 1 := andi main_v20 main_v26
  let main_cst_10 : FVec F S_ .f32 := constant S_ .f32 0xFF800000#32
  let main_v28 : FVec F S1x64 .f32 := broadcastInDim S1x64 ![] bcast_S_S1x64 main_cst_10
  let main_v29 : IVec S1x64 1 := cmpf .ogt main_arg4 main_v28
  let main_cst_11 : FVec F S_ .f32 := constant S_ .f32 0x7F800000#32
  let main_v30 : FVec F S1x64 .f32 := broadcastInDim S1x64 ![] bcast_S_S1x64 main_cst_11
  let main_v31 : IVec S1x64 1 := cmpf .olt main_arg4 main_v30
  let main_v32 : IVec S1x64 1 := andi main_v29 main_v31
  let main_c_12 : IVec S_ 1 := constantI S_ 1 1#1
  fn_part2 (F := F) main_v27 main_v32 main_c_12

def fn {F : FTy → Type} [FloatOps F] (main_arg0 : FVec F S16384x3072 .bf16) (main_arg1 : FVec F S1x64 .f32) (main_arg2 : FVec F S1x64 .f32) (main_arg3 : FVec F S1x64 .f32) (main_arg4 : FVec F S1x64 .f32) (main_arg5 : FVec F S1x128 .f32) : IVec S_ 1 :=
  let main_v0 : FVec F S16384x3072 .f32 := (extf .f32 · bitsLt_bf16_f32) main_arg0
  let main_cst : FVec F S_ .f32 := constant S_ .f32 0xFF800000#32
  let main_v1 : FVec F S16384x3072 .f32 := broadcastInDim S16384x3072 ![] bcast_S_S16384x3072 main_cst
  let main_v2 : IVec S16384x3072 1 := cmpf .ogt main_v0 main_v1
  let main_cst_0 : FVec F S_ .f32 := constant S_ .f32 0x7F800000#32
  let main_v3 : FVec F S16384x3072 .f32 := broadcastInDim S16384x3072 ![] bcast_S_S16384x3072 main_cst_0
  let main_v4 : IVec S16384x3072 1 := cmpf .olt main_v0 main_v3
  let main_v5 : IVec S16384x3072 1 := andi main_v2 main_v4
  let main_c : IVec S_ 1 := constantI S_ 1 1#1
  let main_v6 : IVec S_ 1 := (fun x v => Host.reduce IntOp.andi x v reducesTo_S16384x3072_S_d0_1 h_S_) main_v5 main_c
  let main_cst_1 : FVec F S_ .f32 := constant S_ .f32 0xFF800000#32
  let main_v7 : FVec F S1x64 .f32 := broadcastInDim S1x64 ![] bcast_S_S1x64 main_cst_1
  let main_v8 : IVec S1x64 1 := cmpf .ogt main_arg1 main_v7
  let main_cst_2 : FVec F S_ .f32 := constant S_ .f32 0x7F800000#32
  let main_v9 : FVec F S1x64 .f32 := broadcastInDim S1x64 ![] bcast_S_S1x64 main_cst_2
  let main_v10 : IVec S1x64 1 := cmpf .olt main_arg1 main_v9
  let main_v11 : IVec S1x64 1 := andi main_v8 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v6 main_v12
  let main_cst_4 : FVec F S_ .f32 := constant S_ .f32 0xFF800000#32
  let main_v14 : FVec F S1x64 .f32 := broadcastInDim S1x64 ![] bcast_S_S1x64 main_cst_4
  let main_v15 : IVec S1x64 1 := cmpf .ogt main_arg2 main_v14
  let main_cst_5 : FVec F S_ .f32 := constant S_ .f32 0x7F800000#32
  fn_part1 (F := F) main_arg2 main_arg3 main_arg4 main_v13 main_v15 main_cst_5
-- ==== Fox.lean ====
abbrev S16384x3072 : Shape := ⟨2, ![16384, 3072]⟩
abbrev S8x16384 : Shape := ⟨2, ![8, 16384]⟩
abbrev S4x2x16384 : Shape := ⟨3, ![4, 2, 16384]⟩
abbrev S16384x512 : Shape := ⟨2, ![16384, 512]⟩
abbrev S512x128 : Shape := ⟨2, ![512, 128]⟩
abbrev S16384x128 : Shape := ⟨2, ![16384, 128]⟩
abbrev S1x2x16384 : Shape := ⟨3, ![1, 2, 16384]⟩
abbrev S2x512x128 : Shape := ⟨3, ![2, 512, 128]⟩
abbrev S1x512x128 : Shape := ⟨3, ![1, 512, 128]⟩
abbrev S1x128 : Shape := ⟨2, ![1, 128]⟩
abbrev S1x1x128 : Shape := ⟨3, ![1, 1, 128]⟩
abbrev S1x1 : Shape := ⟨2, ![1, 1]⟩
abbrev S1x1x512 : Shape := ⟨3, ![1, 1, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 4
  | .vmem => 13
  | .smem => 0
  | _ => 0

abbrev bufTy : (tb : Table) → Fin (tcTables nBuf tb) → BufTy
  | .hbm, ⟨0, _⟩ => ⟨S16384x3072, .bf16⟩
  | .hbm, ⟨1, _⟩ => ⟨S8x16384, .f32⟩
  | .hbm, ⟨2, _⟩ => ⟨S4x2x16384, .f32⟩
  | .hbm, ⟨3, _⟩ => ⟨S16384x512, .bf16⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S1x2x16384, .f32⟩
  | .local _ .vmem, ⟨7, _⟩ => ⟨S1x2x16384, .f32⟩
  | .local _ .vmem, ⟨8, _⟩ => ⟨S512x128, .bf16⟩
  | .local _ .vmem, ⟨9, _⟩ => ⟨S512x128, .bf16⟩
  | .local _ .vmem, ⟨10, _⟩ => ⟨S2x512x128, .f32⟩
  | .local _ .vmem, ⟨11, _⟩ => ⟨S2x512x128, .f32⟩
  | .local _ .vmem, ⟨12, _⟩ => ⟨S1x512x128, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c512_i32 : BitVec 32 := 512#32
  let v18 : BitVec 32 := Scalar.muli arg1 c512_i32
  v18
def k0_off1 (i : grid0.Coords) : Fin 3 → Nat :=
  let c0_13 : Index := 0#32
  let c0_14 : Index := 0#32
  let arg1 : BitVec 32 := BitVec.ofNat 32 (i 1).val
  let c512_i32 : BitVec 32 := 512#32
  let v18 : BitVec 32 := Scalar.muli arg1 c512_i32
  let v19 : BitVec 32 := v18
  let v20 : Index := Scalar.indexCast v19
  ![0, 0, v20.toNat]
def k0_off2 (i : grid0.Coords) : Fin 3 → Nat :=
  let c0_15 : Index := 0#32
  let c1 : Index := 1#32
  let arg1 : BitVec 32 := BitVec.ofNat 32 (i 1).val
  let c512_i32 : BitVec 32 := 512#32
  let v18 : BitVec 32 := Scalar.muli arg1 c512_i32
  let v19 : BitVec 32 := v18
  let v24 : Index := Scalar.indexCast v19
  ![0, 1, v24.toNat]
@[reducible] def k0_t1_loop (i : grid0.Coords) : Scf.Loop 32 :=
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let c1_i32_17 : BitVec 32 := 1#32
  ⟨c0_i32_16, v32, c1_i32_17⟩
def k0_mult2 (i : grid0.Coords) (k0_t1 : Fin (k0_t1_loop i).trips) : BitVec 32 :=
  let c0_i32_16 : BitVec 32 := 0#32
  let c1_i32_17 : BitVec 32 := 1#32
  let arg10 : BitVec 32 := Scf.iv c0_i32_16 c1_i32_17 k0_t1
  let c512_i32_78 : BitVec 32 := 512#32
  let v150 : BitVec 32 := Scalar.muli arg10 c512_i32_78
  v150
def k0_off3 (i : grid0.Coords) (k0_t1 : Fin (k0_t1_loop i).trips) : Fin 2 → Nat :=
  let c0_i32_16 : BitVec 32 := 0#32
  let c1_i32_17 : BitVec 32 := 1#32
  let arg10 : BitVec 32 := Scf.iv c0_i32_16 c1_i32_17 k0_t1
  let c512_i32_78 : BitVec 32 := 512#32
  let v150 : BitVec 32 := Scalar.muli arg10 c512_i32_78
  let v151 : BitVec 32 := v150
  let v152 : Index := Scalar.indexCast v151
  let c0_79 : Index := 0#32
  ![v152.toNat, 0]
def k0_off4 (i : grid0.Coords) (k0_t1 : Fin (k0_t1_loop i).trips) : Fin 3 → Nat :=
  let c0_82 : Index := 0#32
  let c0_83 : Index := 0#32
  let c0_i32_16 : BitVec 32 := 0#32
  let c1_i32_17 : BitVec 32 := 1#32
  let arg10 : BitVec 32 := Scf.iv c0_i32_16 c1_i32_17 k0_t1
  let c512_i32_78 : BitVec 32 := 512#32
  let v150 : BitVec 32 := Scalar.muli arg10 c512_i32_78
  let v151 : BitVec 32 := v150
  let v169 : Index := Scalar.indexCast v151
  ![0, 0, v169.toNat]
def k0_off5 (i : grid0.Coords) (k0_t1 : Fin (k0_t1_loop i).trips) : Fin 3 → Nat :=
  let c0_84 : Index := 0#32
  let c1_85 : Index := 1#32
  let c0_i32_16 : BitVec 32 := 0#32
  let c1_i32_17 : BitVec 32 := 1#32
  let arg10 : BitVec 32 := Scf.iv c0_i32_16 c1_i32_17 k0_t1
  let c512_i32_78 : BitVec 32 := 512#32
  let v150 : BitVec 32 := Scalar.muli arg10 c512_i32_78
  let v151 : BitVec 32 := v150
  let v174 : Index := Scalar.indexCast v151
  ![0, 1, v174.toNat]
@[reducible] def k0_t2_loop (i : grid0.Coords) : Scf.Loop 32 :=
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let v29 : BitVec 32 := Scalar.addi c0_i32_16 v28
  let c1_i32_18 : BitVec 32 := 1#32
  ⟨v32, v29, c1_i32_18⟩
def k0_mult3 (i : grid0.Coords) (k0_t2 : Fin (k0_t2_loop i).trips) : BitVec 32 :=
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let c1_i32_18 : BitVec 32 := 1#32
  let arg10 : BitVec 32 := Scf.iv v32 c1_i32_18 k0_t2
  let c512_i32_78 : BitVec 32 := 512#32
  let v150 : BitVec 32 := Scalar.muli arg10 c512_i32_78
  v150
def k0_off6 (i : grid0.Coords) (k0_t2 : Fin (k0_t2_loop i).trips) : Fin 2 → Nat :=
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let c1_i32_18 : BitVec 32 := 1#32
  let arg10 : BitVec 32 := Scf.iv v32 c1_i32_18 k0_t2
  let c512_i32_78 : BitVec 32 := 512#32
  let v150 : BitVec 32 := Scalar.muli arg10 c512_i32_78
  let v151 : BitVec 32 := v150
  let v152 : Index := Scalar.indexCast v151
  let c0_79 : Index := 0#32
  ![v152.toNat, 0]
def k0_off7 (i : grid0.Coords) (k0_t2 : Fin (k0_t2_loop i).trips) : Fin 3 → Nat :=
  let c0_82 : Index := 0#32
  let c0_83 : Index := 0#32
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let c1_i32_18 : BitVec 32 := 1#32
  let arg10 : BitVec 32 := Scf.iv v32 c1_i32_18 k0_t2
  let c512_i32_78 : BitVec 32 := 512#32
  let v150 : BitVec 32 := Scalar.muli arg10 c512_i32_78
  let v151 : BitVec 32 := v150
  let v169 : Index := Scalar.indexCast v151
  ![0, 0, v169.toNat]
def k0_off8 (i : grid0.Coords) (k0_t2 : Fin (k0_t2_loop i).trips) : Fin 3 → Nat :=
  let c0_84 : Index := 0#32
  let c1_85 : Index := 1#32
  let c0_i32_16 : BitVec 32 := 0#32
  let arg1 : BitVec 32 := BitVec.ofNat 32 (i 1).val
  let v28 : BitVec 32 := Scalar.subi arg1 c0_i32_16
  let c1_i32 : BitVec 32 := 1#32
  let v30 : BitVec 32 := Scalar.divsi v28 c1_i32
  let v31 : BitVec 32 := Scalar.muli v30 c1_i32
  let v32 : BitVec 32 := Scalar.addi c0_i32_16 v31
  let c1_i32_18 : BitVec 32 := 1#32
  let arg10 : BitVec 32 := Scf.iv v32 c1_i32_18 k0_t2
  let c512_i32_78 : BitVec 32 := 512#32
  let v150 : BitVec 32 := Scalar.muli arg10 c512_i32_78
  let v151 : BitVec 32 := v150
  let v174 : Index := Scalar.indexCast v151
  ![0, 1, v174.toNat]
def k0_mult4 (i : grid0.Coords) : BitVec 32 :=
  let arg1 : BitVec 32 := BitVec.ofNat 32 (i 1).val
  let c512_i32_19 : BitVec 32 := 512#32
  let v33 : BitVec 32 := Scalar.muli arg1 c512_i32_19
  v33
def k0_off9 (i : grid0.Coords) : Fin 2 → Nat :=
  let arg1 : BitVec 32 := BitVec.ofNat 32 (i 1).val
  let c512_i32_19 : BitVec 32 := 512#32
  let v33 : BitVec 32 := Scalar.muli arg1 c512_i32_19
  let v34 : BitVec 32 := v33
  let v35 : Index := Scalar.indexCast v34
  let c0_20 : Index := 0#32
  ![v35.toNat, 0]
def k0_off10 (i : grid0.Coords) : Fin 3 → Nat :=
  let c0_23 : Index := 0#32
  let c0_24 : Index := 0#32
  let arg1 : BitVec 32 := BitVec.ofNat 32 (i 1).val
  let c512_i32_19 : BitVec 32 := 512#32
  let v33 : BitVec 32 := Scalar.muli arg1 c512_i32_19
  let v34 : BitVec 32 := v33
  let v52 : Index := Scalar.indexCast v34
  ![0, 0, v52.toNat]
def k0_off11 (i : grid0.Coords) : Fin 3 → Nat :=
  let c0_25 : Index := 0#32
  let c1_26 : Index := 1#32
  let arg1 : BitVec 32 := BitVec.ofNat 32 (i 1).val
  let c512_i32_19 : BitVec 32 := 512#32
  let v33 : BitVec 32 := Scalar.muli arg1 c512_i32_19
  let v34 : BitVec 32 := v33
  let v57 : Index := Scalar.indexCast v34
  ![0, 1, v57.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FoxIdeal.lean ====
variable {F : FTy → Type} [FloatOps F] [Named F]
def κ : String → Option EReal := fun
  | "mask" => some ⊥
  | _ => none
-- ==== FoxRefIdeal.lean ====
abbrev S16384x3072 : Shape := ⟨2, ![16384, 3072]⟩
abbrev S8x16384 : Shape := ⟨2, ![8, 16384]⟩
abbrev S16384x1536 : Shape := ⟨2, ![16384, 1536]⟩
abbrev S16384x512 : Shape := ⟨2, ![16384, 512]⟩
abbrev S16384x8x64 : Shape := ⟨3, ![16384, 8, 64]⟩
abbrev S8x16384x64 : Shape := ⟨3, ![8, 16384, 64]⟩
abbrev S16384 : Shape := ⟨1, ![16384]⟩
abbrev S8x16384x16384 : Shape := ⟨3, ![8, 16384, 16384]⟩
abbrev S_ : Shape := ⟨0, ![]⟩
abbrev S8x16384x1 : Shape := ⟨3, ![8, 16384, 1]⟩
abbrev S8x1x16384 : Shape := ⟨3, ![8, 1, 16384]⟩
abbrev S1x16384 : Shape := ⟨2, ![1, 16384]⟩
abbrev S16384x1 : Shape := ⟨2, ![16384, 1]⟩
abbrev S16384x16384 : Shape := ⟨2, ![16384, 16384]⟩

abbrev nBuf : Space → Nat
  | .hbm => 52
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S8x16384, .f32⟩
  | .hbm, ⟨2, _⟩ => ⟨S16384x1536, .bf16⟩
  | .hbm, ⟨3, _⟩ => ⟨S16384x1536, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x8x64, .f32⟩
  | .hbm, ⟨8, _⟩ => ⟨S8x16384x64, .f32⟩
  | .hbm, ⟨9, _⟩ => ⟨S16384x8x64, .f32⟩
  | .hbm, ⟨10, _⟩ => ⟨S8x16384x64, .f32⟩
  | .hbm, ⟨11, _⟩ => ⟨S16384x8x64, .f32⟩
  | .hbm, ⟨12, _⟩ => ⟨S8x16384x64, .f32⟩
  | .hbm, ⟨13, _⟩ => ⟨S16384, .i32⟩
  | .hbm, ⟨14, _⟩ => ⟨S8x16384x16384, .f32⟩
  | .hbm, ⟨15, _⟩ => ⟨S_, .f32⟩
  | .hbm, ⟨16, _⟩ => ⟨S8x16384x16384, .f32⟩
  | .hbm, ⟨17, _⟩ => ⟨S8x16384x16384, .f32⟩
  | .hbm, ⟨18, _⟩ => ⟨S8x16384x1, .f32⟩
  | .hbm, ⟨19, _⟩ => ⟨S8x1x16384, .f32⟩
  | .hbm, ⟨20, _⟩ => ⟨S8x16384x16384, .f32⟩
  | .hbm, ⟨21, _⟩ => ⟨S8x16384x16384, .f32⟩
  | .hbm, ⟨22, _⟩ => ⟨S8x16384x16384, .f32⟩
  | .hbm, ⟨23, _⟩ => ⟨S8x16384x16384, .f32⟩
  | .hbm, ⟨24, _⟩ => ⟨S1x16384, .i32⟩
  | .hbm, ⟨25, _⟩ => ⟨S16384x1, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S_, .f32⟩
  | .hbm, ⟨30, _⟩ => ⟨S_, .f32⟩
  | .hbm, ⟨31, _⟩ => ⟨S8x16384x16384, .i1⟩
  | .hbm, ⟨32, _⟩ => ⟨S8x16384x16384, .f32⟩
  | .hbm, ⟨33, _⟩ => ⟨S8x16384x16384, .f32⟩
  | .hbm, ⟨34, _⟩ => ⟨S_, .f32⟩
  | .hbm, ⟨35, _⟩ => ⟨S8x16384, .f32⟩
  | .hbm, ⟨36, _⟩ => ⟨S_, .f32⟩
  | .hbm, ⟨37, _⟩ => ⟨S8x16384, .f32⟩
  | .hbm, ⟨38, _⟩ => ⟨S8x16384, .f32⟩
  | .hbm, ⟨39, _⟩ => ⟨S8x16384x1, .f32⟩
  | .hbm, ⟨40, _⟩ => ⟨S8x16384x16384, .f32⟩
  | .hbm, ⟨41, _⟩ => ⟨S8x16384x16384, .f32⟩
  | .hbm, ⟨42, _⟩ => ⟨S8x16384x16384, .f32⟩
  | .hbm, ⟨43, _⟩ => ⟨S_, .f32⟩
  | .hbm, ⟨44, _⟩ => ⟨S8x16384, .f32⟩
  | .hbm, ⟨45, _⟩ => ⟨S8x16384x1, .f32⟩
  | .hbm, ⟨46, _⟩ => ⟨S8x16384x16384, .f32⟩
  | .hbm, ⟨47, _⟩ => ⟨S8x16384x16384, .f32⟩
  | .hbm, ⟨48, _⟩ => ⟨S8x16384x64, .f32⟩
  | .hbm, ⟨49, _⟩ => ⟨S16384x8x64, .f32⟩
  | .hbm, ⟨50, _⟩ => ⟨S16384x512, .f32⟩
  | .hbm, ⟨51, _⟩ => ⟨S16384x512, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Diff.lean ====
abbrev S16384x3072 : Shape := ⟨2, ![16384, 3072]⟩
abbrev S1x64 : Shape := ⟨2, ![1, 64]⟩
abbrev S1x128 : Shape := ⟨2, ![1, 128]⟩
abbrev S64 : Shape := ⟨1, ![64]⟩
abbrev S128 : Shape := ⟨1, ![128]⟩
abbrev S16384x512 : Shape := ⟨2, ![16384, 512]⟩
abbrev S512x128 : Shape := ⟨2, ![512, 128]⟩
abbrev S16384x128 : Shape := ⟨2, ![16384, 128]⟩
abbrev S2x512x128 : Shape := ⟨3, ![2, 512, 128]⟩
abbrev S1x1 : Shape := ⟨2, ![1, 1]⟩
abbrev S1x512 : Shape := ⟨2, ![1, 512]⟩
abbrev S512x512 : Shape := ⟨2, ![512, 512]⟩
abbrev S1x512x128 : Shape := ⟨3, ![1, 512, 128]⟩
abbrev S512 : Shape := ⟨1, ![512]⟩
abbrev S512x1 : Shape := ⟨2, ![512, 1]⟩
abbrev S1 : Shape := ⟨1, ![1]⟩

abbrev nBuf : Space → Nat
  | .hbm => 17
  | .vmem => 16
  | .smem => 0
  | _ => 0

abbrev bufTy : (tb : Table) → Fin (tcTables nBuf tb) → BufTy
  | .hbm, ⟨0, _⟩ => ⟨S16384x3072, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S128, .f32⟩
  | .hbm, ⟨15, _⟩ => ⟨S1x128, .f32⟩
  | .hbm, ⟨16, _⟩ => ⟨S16384x512, .bf16⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S512x128, .bf16⟩
  | .local _ .vmem, ⟨12, _⟩ => ⟨S512x128, .bf16⟩
  | .local _ .vmem, ⟨13, _⟩ => ⟨S2x512x128, .f32⟩
  | .local _ .vmem, ⟨14, _⟩ => ⟨S2x512x128, .f32⟩
  | .local _ .vmem, ⟨15, _⟩ => ⟨S2x512x128, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c512_i32 : BitVec 32 := 512#32
  let v18 : BitVec 32 := Scalar.muli arg1 c512_i32
  v18
@[reducible] def k0_t1_loop (i : grid0.Coords) : Scf.Loop 32 :=
  let c0_i32_14 : BitVec 32 := 0#32
  let arg1 : BitVec 32 := BitVec.ofNat 32 (i 1).val
  let v27 : BitVec 32 := Scalar.subi arg1 c0_i32_14
  let c1_i32_15 : BitVec 32 := 1#32
  let v29 : BitVec 32 := Scalar.divsi v27 c1_i32_15
  let v30 : BitVec 32 := Scalar.muli v29 c1_i32_15
  let v31 : BitVec 32 := Scalar.addi c0_i32_14 v30
  let c1_i32_16 : BitVec 32 := 1#32
  ⟨c0_i32_14, v31, c1_i32_16⟩
def k0_mult2 (i : grid0.Coords) (k0_t1 : Fin (k0_t1_loop i).trips) : BitVec 32 :=
  let c0_i32_14 : BitVec 32 := 0#32
  let c1_i32_16 : BitVec 32 := 1#32
  let arg14 : BitVec 32 := Scf.iv c0_i32_14 c1_i32_16 k0_t1
  let c512_i32_98 : BitVec 32 := 512#32
  let v180 : BitVec 32 := Scalar.muli arg14 c512_i32_98
  v180
def k0_off1 (i : grid0.Coords) (k0_t1 : Fin (k0_t1_loop i).trips) : Fin 2 → Nat :=
  let c0_i32_14 : BitVec 32 := 0#32
  let c1_i32_16 : BitVec 32 := 1#32
  let arg14 : BitVec 32 := Scf.iv c0_i32_14 c1_i32_16 k0_t1
  let c512_i32_98 : BitVec 32 := 512#32
  let v180 : BitVec 32 := Scalar.muli arg14 c512_i32_98
  let v181 : BitVec 32 := v180
  let v182 : Index := Scalar.indexCast v181
  let c0_99 : Index := 0#32
  ![v182.toNat, 0]
@[reducible] def k0_t2_loop (i : grid0.Coords) : Scf.Loop 32 :=
  let c0_i32_14 : BitVec 32 := 0#32
  let arg1 : BitVec 32 := BitVec.ofNat 32 (i 1).val
  let v27 : BitVec 32 := Scalar.subi arg1 c0_i32_14
  let c1_i32_15 : BitVec 32 := 1#32
  let v29 : BitVec 32 := Scalar.divsi v27 c1_i32_15
  let v30 : BitVec 32 := Scalar.muli v29 c1_i32_15
  let v31 : BitVec 32 := Scalar.addi c0_i32_14 v30
  let v28 : BitVec 32 := Scalar.addi c0_i32_14 v27
  let c1_i32_17 : BitVec 32 := 1#32
  ⟨v31, v28, c1_i32_17⟩
def k0_mult3 (i : grid0.Coords) (k0_t2 : Fin (k0_t2_loop i).trips) : BitVec 32 :=
  let c0_i32_14 : BitVec 32 := 0#32
  let arg1 : BitVec 32 := BitVec.ofNat 32 (i 1).val
  let v27 : BitVec 32 := Scalar.subi arg1 c0_i32_14
  let c1_i32_15 : BitVec 32 := 1#32
  let v29 : BitVec 32 := Scalar.divsi v27 c1_i32_15
  let v30 : BitVec 32 := Scalar.muli v29 c1_i32_15
  let v31 : BitVec 32 := Scalar.addi c0_i32_14 v30
  let c1_i32_17 : BitVec 32 := 1#32
  let arg14 : BitVec 32 := Scf.iv v31 c1_i32_17 k0_t2
  let c512_i32_98 : BitVec 32 := 512#32
  let v180 : BitVec 32 := Scalar.muli arg14 c512_i32_98
  v180
def k0_off2 (i : grid0.Coords) (k0_t2 : Fin (k0_t2_loop i).trips) : Fin 2 → Nat :=
  let c0_i32_14 : BitVec 32 := 0#32
  let arg1 : BitVec 32 := BitVec.ofNat 32 (i 1).val
  let v27 : BitVec 32 := Scalar.subi arg1 c0_i32_14
  let c1_i32_15 : BitVec 32 := 1#32
  let v29 : BitVec 32 := Scalar.divsi v27 c1_i32_15
  let v30 : BitVec 32 := Scalar.muli v29 c1_i32_15
  let v31 : BitVec 32 := Scalar.addi c0_i32_14 v30
  let c1_i32_17 : BitVec 32 := 1#32
  let arg14 : BitVec 32 := Scf.iv v31 c1_i32_17 k0_t2
  let c512_i32_98 : BitVec 32 := 512#32
  let v180 : BitVec 32 := Scalar.muli arg14 c512_i32_98
  let v181 : BitVec 32 := v180
  let v182 : Index := Scalar.indexCast v181
  let c0_99 : Index := 0#32
  ![v182.toNat, 0]
def k0_mult4 (i : grid0.Coords) : BitVec 32 :=
  let arg1 : BitVec 32 := BitVec.ofNat 32 (i 1).val
  let c512_i32_18 : BitVec 32 := 512#32
  let v32 : BitVec 32 := Scalar.muli arg1 c512_i32_18
  v32
def k0_off3 (i : grid0.Coords) : Fin 2 → Nat :=
  let arg1 : BitVec 32 := BitVec.ofNat 32 (i 1).val
  let c512_i32_18 : BitVec 32 := 512#32
  let v32 : BitVec 32 := Scalar.muli arg1 c512_i32_18
  let v33 : BitVec 32 := v32
  let v34 : Index := Scalar.indexCast v33
  let c0_19 : Index := 0#32
  ![v34.toNat, 0]
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DiffIdeal.lean ====
variable {F : FTy → Type} [FloatOps F] [Named F]
def κ : String → Option EReal := fun
  | "mask" => some ⊥
  | _ => none
-- ==== DiffRefIdeal.lean ====
abbrev S16384x3072 : Shape := ⟨2, ![16384, 3072]⟩
abbrev S1x64 : Shape := ⟨2, ![1, 64]⟩
abbrev S1x128 : Shape := ⟨2, ![1, 128]⟩
abbrev S16384x1536 : Shape := ⟨2, ![16384, 1536]⟩
abbrev S16384x512 : Shape := ⟨2, ![16384, 512]⟩
abbrev S16384x4x2x64 : Shape := ⟨4, ![16384, 4, 2, 64]⟩
abbrev S4x2x16384x64 : Shape := ⟨4, ![4, 2, 16384, 64]⟩
abbrev S16384x4x128 : Shape := ⟨3, ![16384, 4, 128]⟩
abbrev S4x16384x128 : Shape := ⟨3, ![4, 16384, 128]⟩
abbrev S64 : Shape := ⟨1, ![64]⟩
abbrev S_ : Shape := ⟨0, ![]⟩
abbrev S4 : Shape := ⟨1, ![4]⟩
abbrev S16384 : Shape := ⟨1, ![16384]⟩
abbrev S4x2x16384x16384 : Shape := ⟨4, ![4, 2, 16384, 16384]⟩
abbrev S4x1x1x1 : Shape := ⟨4, ![4, 1, 1, 1]⟩
abbrev S16384x1 : Shape := ⟨2, ![16384, 1]⟩
abbrev S1x16384 : Shape := ⟨2, ![1, 16384]⟩
abbrev S16384x16384 : Shape := ⟨2, ![16384, 16384]⟩
abbrev S1x1x16384x16384 : Shape := ⟨4, ![1, 1, 16384, 16384]⟩
abbrev S4x1x16384x16384 : Shape := ⟨4, ![4, 1, 16384, 16384]⟩
abbrev S4x2x16384 : Shape := ⟨3, ![4, 2, 16384]⟩
abbrev S4x2x16384x1 : Shape := ⟨4, ![4, 2, 16384, 1]⟩
abbrev S4x16384x16384 : Shape := ⟨3, ![4, 16384, 16384]⟩
abbrev S128 : Shape := ⟨1, ![128]⟩
abbrev S4x16384 : Shape := ⟨2, ![4, 16384]⟩
abbrev S4x16384x1 : Shape := ⟨3, ![4, 16384, 1]⟩
abbrev S1x1x128 : Shape := ⟨3, ![1, 1, 128]⟩

abbrev nBuf : Space → Nat
  | .hbm => 119
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S16384x1536, .bf16⟩
  | .hbm, ⟨7, _⟩ => ⟨S16384x1536, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x4x2x64, .f32⟩
  | .hbm, ⟨12, _⟩ => ⟨S4x2x16384x64, .f32⟩
  | .hbm, ⟨13, _⟩ => ⟨S16384x4x2x64, .f32⟩
  | .hbm, ⟨14, _⟩ => ⟨S4x2x16384x64, .f32⟩
  | .hbm, ⟨15, _⟩ => ⟨S16384x4x128, .f32⟩
  | .hbm, ⟨16, _⟩ => ⟨S4x16384x128, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4, .i32⟩
  | .hbm, ⟨33, _⟩ => ⟨S_, .i32⟩
  | .hbm, ⟨34, _⟩ => ⟨S4, .i32⟩
  | .hbm, ⟨35, _⟩ => ⟨S4, .i32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S16384, .i32⟩
  | .hbm, ⟨47, _⟩ => ⟨S4x2x16384x16384, .f32⟩
  | .hbm, ⟨48, _⟩ => ⟨S_, .f32⟩
  | .hbm, ⟨49, _⟩ => ⟨S4x2x16384x16384, .f32⟩
  | .hbm, ⟨50, _⟩ => ⟨S4x2x16384x16384, .f32⟩
  | .hbm, ⟨51, _⟩ => ⟨S4x1x1x1, .f32⟩
  | .hbm, ⟨52, _⟩ => ⟨S16384x1, .i32⟩
  | .hbm, ⟨53, _⟩ => ⟨S1x16384, .i32⟩
  | .hbm, ⟨54, _⟩ => ⟨S16384x16384, .i32⟩
  | .hbm, ⟨55, _⟩ => ⟨S16384x16384, .i32⟩
  | .hbm, ⟨56, _⟩ => ⟨S16384x16384, .i32⟩
  | .hbm, ⟨57, _⟩ => ⟨S16384x16384, .f32⟩
  | .hbm, ⟨58, _⟩ => ⟨S1x1x16384x16384, .f32⟩
  | .hbm, ⟨59, _⟩ => ⟨S4x1x16384x16384, .f32⟩
  | .hbm, ⟨60, _⟩ => ⟨S4x1x16384x16384, .f32⟩
  | .hbm, ⟨61, _⟩ => ⟨S4x1x16384x16384, .f32⟩
  | .hbm, ⟨62, _⟩ => ⟨S4x2x16384x16384, .f32⟩
  | .hbm, ⟨63, _⟩ => ⟨S4x2x16384x16384, .f32⟩
  | .hbm, ⟨64, _⟩ => ⟨S1x16384, .i32⟩
  | .hbm, ⟨65, _⟩ => ⟨S16384x1, .i32⟩
  | .hbm, ⟨66, _⟩ => ⟨S16384x16384, .i32⟩
  | .hbm, ⟨67, _⟩ => ⟨S16384x16384, .i32⟩
  | .hbm, ⟨68, _⟩ => ⟨S16384x16384, .i1⟩
  | .hbm, ⟨69, _⟩ => ⟨S_, .f32⟩
  | .hbm, ⟨70, _⟩ => ⟨S_, .f32⟩
  | .hbm, ⟨71, _⟩ => ⟨S4x2x16384x16384, .i1⟩
  | .hbm, ⟨72, _⟩ => ⟨S4x2x16384x16384, .f32⟩
  | .hbm, ⟨73, _⟩ => ⟨S4x2x16384x16384, .f32⟩
  | .hbm, ⟨74, _⟩ => ⟨S_, .f32⟩
  | .hbm, ⟨75, _⟩ => ⟨S4x2x16384, .f32⟩
  | .hbm, ⟨76, _⟩ => ⟨S_, .f32⟩
  | .hbm, ⟨77, _⟩ => ⟨S4x2x16384, .f32⟩
  | .hbm, ⟨78, _⟩ => ⟨S4x2x16384, .f32⟩
  | .hbm, ⟨79, _⟩ => ⟨S4x2x16384x1, .f32⟩
  | .hbm, ⟨80, _⟩ => ⟨S4x2x16384x16384, .f32⟩
  | .hbm, ⟨81, _⟩ => ⟨S4x2x16384x16384, .f32⟩
  | .hbm, ⟨82, _⟩ => ⟨S4x2x16384x16384, .f32⟩
  | .hbm, ⟨83, _⟩ => ⟨S_, .f32⟩
  | .hbm, ⟨84, _⟩ => ⟨S4x2x16384, .f32⟩
  | .hbm, ⟨85, _⟩ => ⟨S4x2x16384x1, .f32⟩
  | .hbm, ⟨86, _⟩ => ⟨S4x2x16384x16384, .f32⟩
  | .hbm, ⟨87, _⟩ => ⟨S4x2x16384x16384, .f32⟩
  | .hbm, ⟨88, _⟩ => ⟨S4x1x16384x16384, .f32⟩
  | .hbm, ⟨89, _⟩ => ⟨S4x16384x16384, .f32⟩
  | .hbm, ⟨90, _⟩ => ⟨S4x1x16384x16384, .f32⟩
  | .hbm, ⟨91, _⟩ => ⟨S4x16384x16384, .f32⟩
  | .hbm, ⟨92, _⟩ => ⟨S4x16384x16384, .f32⟩
  | .hbm, ⟨93, _⟩ => ⟨S4x16384x16384, .f32⟩
  | .hbm, ⟨94, _⟩ => ⟨S4x16384x16384, .f32⟩
  | .hbm, ⟨95, _⟩ => ⟨S4x16384x128, .f32⟩
  | .hbm, ⟨96, _⟩ => ⟨S128, .f32⟩
  | .hbm, ⟨97, _⟩ => ⟨S4x16384x128, .f32⟩
  | .hbm, ⟨98, _⟩ => ⟨S_, .f32⟩
  | .hbm, ⟨99, _⟩ => ⟨S4x16384, .f32⟩
  | .hbm, ⟨100, _⟩ => ⟨S4x16384x1, .f32⟩
  | .hbm, ⟨101, _⟩ => ⟨S_, .f32⟩
  | .hbm, ⟨102, _⟩ => ⟨S4x16384x1, .f32⟩
  | .hbm, ⟨103, _⟩ => ⟨S4x16384x1, .f32⟩
  | .hbm, ⟨104, _⟩ => ⟨S_, .f32⟩
  | .hbm, ⟨105, _⟩ => ⟨S4x16384x1, .f32⟩
  | .hbm, ⟨106, _⟩ => ⟨S4x16384x1, .f32⟩
  | .hbm, ⟨107, _⟩ => ⟨S4x16384x1, .f32⟩
  | .hbm, ⟨108, _⟩ => ⟨S4x16384x128, .f32⟩
  | .hbm, ⟨109, _⟩ => ⟨S4x16384x128, .f32⟩
  | .hbm, ⟨110, _⟩ => ⟨S1x1x128, .f32⟩
  | .hbm, ⟨111, _⟩ => ⟨S4x16384x128, .f32⟩
  | .hbm, ⟨112, _⟩ => ⟨S4x16384x128, .f32⟩
  | .hbm, ⟨113, _⟩ => ⟨S_, .f32⟩
  | .hbm, ⟨114, _⟩ => ⟨S4x16384x128, .f32⟩
  | .hbm, ⟨115, _⟩ => ⟨S4x16384x128, .f32⟩
  | .hbm, ⟨116, _⟩ => ⟨S16384x4x128, .f32⟩
  | .hbm, ⟨117, _⟩ => ⟨S16384x512, .f32⟩
  | .hbm, ⟨118, _⟩ => ⟨S16384x512, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_10 : Ref sig .tc := ⟨.hbm, 98, rfl⟩
abbrev main_v77 : Ref sig .tc := ⟨.hbm, 99, rfl⟩
abbrev main_v78 : Ref sig .tc := ⟨.hbm, 100, rfl⟩
abbrev main_cst_11 : Ref sig .tc := ⟨.hbm, 101, rfl⟩
abbrev main_v79 : Ref sig .tc := ⟨.hbm, 102, rfl⟩
abbrev main_v80 : Ref sig .tc := ⟨.hbm, 103, rfl⟩
abbrev main_cst_12 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_13 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩

abbrev nD : Nat := 1
abbrev τ : Topo := Topo.v7x

variable {F : FTy → Type} [FloatOps F]
-- ==== Ffn.lean ====
abbrev S1x16384x1024 : Shape := ⟨3, ![1, 16384, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S16384x1024 : Shape := ⟨2, ![16384, 1024]⟩
abbrev S1024x1024 : Shape := ⟨2, ![1024, 1024]⟩
abbrev S1024x2816 : Shape := ⟨2, ![1024, 2816]⟩
abbrev S2816x1024 : Shape := ⟨2, ![2816, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 22
  | .vmem => 14
  | .smem => 0
  | _ => 0

abbrev bufTy : (tb : Table) → Fin (tcTables nBuf tb) → BufTy
  | .hbm, ⟨0, _⟩ => ⟨S1x16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S16384x1024, .f32⟩
  | .hbm, ⟨10, _⟩ => ⟨S1024x1024, .f32⟩
  | .hbm, ⟨11, _⟩ => ⟨S1024x1024, .bf16⟩
  | .hbm, ⟨12, _⟩ => ⟨S1024, .f32⟩
  | .hbm, ⟨13, _⟩ => ⟨S1x1024, .f32⟩
  | .hbm, ⟨14, _⟩ => ⟨S1024x2816, .f32⟩
  | .hbm, ⟨15, _⟩ => ⟨S1024x2816, .bf16⟩
  | .hbm, ⟨16, _⟩ => ⟨S1024x2816, .f32⟩
  | .hbm, ⟨17, _⟩ => ⟨S1024x2816, .bf16⟩
  | .hbm, ⟨18, _⟩ => ⟨S2816x1024, .f32⟩
  | .hbm, ⟨19, _⟩ => ⟨S2816x1024, .bf16⟩
  | .hbm, ⟨20, _⟩ => ⟨S1x1024, .f32⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S1x16384x1024 : Shape := ⟨3, ![1, 16384, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S16384x1024 : Shape := ⟨2, ![16384, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S16384x2816 : Shape := ⟨2, ![16384, 2816]⟩
abbrev S2816x1024 : Shape := ⟨2, ![2816, 1024]⟩

abbrev nBuf : Space → Nat
  | .hbm => 65
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S16384x1024, .bf16⟩
  | .hbm, ⟨10, _⟩ => ⟨S16384x1024, .f32⟩
  | .hbm, ⟨11, _⟩ => ⟨S16384x1024, .f32⟩
  | .hbm, ⟨12, _⟩ => ⟨S1024x1024, .f32⟩
  | .hbm, ⟨13, _⟩ => ⟨S16384x1024, .f32⟩
  | .hbm, ⟨14, _⟩ => ⟨S16384x1024, .f32⟩
  | .hbm, ⟨15, _⟩ => ⟨S1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S1024x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S1024x2816, .f32⟩
  | .hbm, ⟨44, _⟩ => ⟨S16384x2816, .f32⟩
  | .hbm, ⟨45, _⟩ => ⟨S16384x2816, .f32⟩
  | .hbm, ⟨46, _⟩ => ⟨S2816x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩

abbrev nD : Nat := 1
abbrev τ : Topo := Topo.v7x

variable {F : FTy → Type} [FloatOps F]
-- ==== Proj.lean ====
abbrev S1x16384x1024 : Shape := ⟨3, ![1, 16384, 1024]⟩
abbrev S1x1024 : Shape := ⟨2, ![1, 1024]⟩
abbrev S1x1024x3080 : Shape := ⟨3, ![1, 1024, 3080]⟩
abbrev S1x8 : Shape := ⟨2, ![1, 8]⟩
abbrev S16384x1024 : Shape := ⟨2, ![16384, 1024]⟩
abbrev S1024x3080 : Shape := ⟨2, ![1024, 3080]⟩
abbrev S1024x1536 : Shape := ⟨2, ![1024, 1536]⟩
abbrev S1024x8 : Shape := ⟨2, ![1024, 8]⟩
abbrev S_ : Shape := ⟨0, ![]⟩
abbrev S1024x120 : Shape := ⟨2, ![1024, 120]⟩
abbrev S1024x3200 : Shape := ⟨2, ![1024, 3200]⟩
abbrev S8 : Shape := ⟨1, ![8]⟩
abbrev S128 : Shape := ⟨1, ![128]⟩
abbrev S1x128 : Shape := ⟨2, ![1, 128]⟩
abbrev S1024 : Shape := ⟨1, ![1024]⟩
abbrev S16384x3072 : Shape := ⟨2, ![16384, 3072]⟩
abbrev S8x16384 : Shape := ⟨2, ![8, 16384]⟩
abbrev S512x1024 : Shape := ⟨2, ![512, 1024]⟩
abbrev S512x3072 : Shape := ⟨2, ![512, 3072]⟩
abbrev S8x512 : Shape := ⟨2, ![8, 512]⟩
abbrev S512x512 : Shape := ⟨2, ![512, 512]⟩
abbrev S8x128 : Shape := ⟨2, ![8, 128]⟩
abbrev S512 : Shape := ⟨1, ![512]⟩
abbrev S512x1 : Shape := ⟨2, ![512, 1]⟩
abbrev S512x3200 : Shape := ⟨2, ![512, 3200]⟩
abbrev S512x128 : Shape := ⟨2, ![512, 128]⟩
abbrev S128x512 : Shape := ⟨2, ![128, 512]⟩
abbrev S24x512 : Shape := ⟨2, ![24, 512]⟩
abbrev S8x1 : Shape := ⟨2, ![8, 1]⟩

abbrev nBuf : Space → Nat
  | .hbm => 22
  | .vmem => 11
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x3080, .f32⟩
  | .hbm, ⟨3, _⟩ => ⟨S1x8, .f32⟩
  | .hbm, ⟨4, _⟩ => ⟨S16384x1024, .f32⟩
  | .hbm, ⟨5, _⟩ => ⟨S1024x3080, .f32⟩
  | .hbm, ⟨6, _⟩ => ⟨S1024x1536, .f32⟩
  | .hbm, ⟨7, _⟩ => ⟨S1024x1536, .f32⟩
  | .hbm, ⟨8, _⟩ => ⟨S1024x8, .f32⟩
  | .hbm, ⟨9, _⟩ => ⟨S_, .f32⟩
  | .hbm, ⟨10, _⟩ => ⟨S1024x120, .f32⟩
  | .hbm, ⟨11, _⟩ => ⟨S1024x3200, .f32⟩
  | .hbm, ⟨12, _⟩ => ⟨S1024x3200, .bf16⟩
  | .hbm, ⟨13, _⟩ => ⟨S8, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S1024, .f32⟩
  | .hbm, ⟨19, _⟩ => ⟨S1x1024, .f32⟩
  | .hbm, ⟨20, _⟩ => ⟨S16384x3072, .bf16⟩
  | .hbm, ⟨21, _⟩ => ⟨S8x16384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S1x128, .f32⟩
  | .local _ .vmem, ⟨5, _⟩ => ⟨S512x3072, .bf16⟩
  | .local _ .vmem, ⟨6, _⟩ => ⟨S512x3072, .bf16⟩
  | .local _ .vmem, ⟨7, _⟩ => ⟨S8x512, .f32⟩
  | .local _ .vmem, ⟨8, _⟩ => ⟨S8x512, .f32⟩
  | .local _ .vmem, ⟨9, _⟩ => ⟨S512x512, .bf16⟩
  | .local _ .vmem, ⟨10, _⟩ => ⟨S8x128, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjRefIdeal.lean ====
abbrev S1x16384x1024 : Shape := ⟨3, ![1, 16384, 1024]⟩
abbrev S1x1024 : Shape := ⟨2, ![1, 1024]⟩
abbrev S1x1024x3080 : Shape := ⟨3, ![1, 1024, 3080]⟩
abbrev S1x8 : Shape := ⟨2, ![1, 8]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x3080 : Shape := ⟨2, ![1024, 3080]⟩
abbrev S16384x3080 : Shape := ⟨2, ![16384, 3080]⟩
abbrev S16384x8 : Shape := ⟨2, ![16384, 8]⟩
abbrev S8 : Shape := ⟨1, ![8]⟩
abbrev S16384x1536 : Shape := ⟨2, ![16384, 1536]⟩
abbrev S16384x3072 : Shape := ⟨2, ![16384, 3072]⟩
abbrev S8x16384 : Shape := ⟨2, ![8, 16384]⟩

abbrev nBuf : Space → Nat
  | .hbm => 53
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x3080, .f32⟩
  | .hbm, ⟨3, _⟩ => ⟨S1x8, .f32⟩
  | .hbm, ⟨4, _⟩ => ⟨S16384x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1024x3080, .f32⟩
  | .hbm, ⟨23, _⟩ => ⟨S16384x3080, .f32⟩
  | .hbm, ⟨24, _⟩ => ⟨S16384x8, .f32⟩
  | .hbm, ⟨25, _⟩ => ⟨S8, .f32⟩
  | .hbm, ⟨26, _⟩ => ⟨S1x8, .f32⟩
  | .hbm, ⟨27, _⟩ => ⟨S16384x8, .f32⟩
  | .hbm, ⟨28, _⟩ => ⟨S16384x8, .f32⟩
  | .hbm, ⟨29, _⟩ => ⟨S16384x8, .f32⟩
  | .hbm, ⟨30, _⟩ => ⟨S_, .f32⟩
  | .hbm, ⟨31, _⟩ => ⟨S16384x8, .f32⟩
  | .hbm, ⟨32, _⟩ => ⟨S16384x8, .f32⟩
  | .hbm, ⟨33, _⟩ => ⟨S16384x8, .f32⟩
  | .hbm, ⟨34, _⟩ => ⟨S16384x8, .f32⟩
  | .hbm, ⟨35, _⟩ => ⟨S16384x8, .i1⟩
  | .hbm, ⟨36, _⟩ => ⟨S16384x8, .f32⟩
  | .hbm, ⟨37, _⟩ => ⟨S16384x8, .f32⟩
  | .hbm, ⟨38, _⟩ => ⟨S16384x8, .f32⟩
  | .hbm, ⟨39, _⟩ => ⟨S16384x8, .f32⟩
  | .hbm, ⟨40, _⟩ => ⟨S16384x8, .f32⟩
  | .hbm, ⟨41, _⟩ => ⟨S16384x8, .f32⟩
  | .hbm, ⟨42, _⟩ => ⟨S16384x8, .f32⟩
  | .hbm, ⟨43, _⟩ => ⟨S16384x8, .f32⟩
  | .hbm, ⟨44, _⟩ => ⟨S16384x8, .f32⟩
  | .hbm, ⟨45, _⟩ => ⟨S16384x1536, .f32⟩
  | .hbm, ⟨46, _⟩ => ⟨S16384x1536, .f32⟩
  | .hbm, ⟨47, _⟩ => ⟨S16384x3072, .f32⟩
  | .hbm, ⟨48, _⟩ => ⟨S16384x3072, .bf16⟩
  | .hbm, ⟨49, _⟩ => ⟨S8x16384, .f32⟩
  | .hbm, ⟨50, _⟩ => ⟨S_, .f32⟩
  | .hbm, ⟨51, _⟩ => ⟨S_, .f32⟩
  | .hbm, ⟨52, _⟩ => ⟨S8x16384, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_call0_cst : Ref sig .tc := ⟨.hbm, 50, rfl⟩
abbrev main_call1_call0_v0 : Ref sig .tc := ⟨.hbm, 51, rfl⟩
abbrev main_v28 : Ref sig .tc := ⟨.hbm, 52, rfl⟩

abbrev nD : Nat := 1
abbrev τ : Topo := Topo.v7x

variable {F : FTy → Type} [FloatOps F]
-- ==== Proof.Softmax.lean ====
/- Softmax in one pass over the extended reals. A running maximum, a running sum of exponentials and a running weighted sum
   are kept over the first keys, each rescaled whenever the maximum grows. What they hold after any number of keys is the
   maximum, the sum and the weighted sum of those keys, and their quotient is the softmax average. -/
module

public import Idealize.ShloMosaic.Lib.Pipeline.ValueKit

@[expose] public section

noncomputable section

open Idealize.ShloMosaic

namespace Cert.Online

/-- The greatest of the first `n` scores; the least extended real if there is none. -/
def top (s : ℕ → EReal) (n : ℕ) : EReal := (Finset.range n).sup s

/-- The sum of the exponentials of the first `n` scores, each less `M`. -/
def den (s : ℕ → EReal) (n : ℕ) (M : EReal) : EReal := ∑ j ∈ Finset.range n, Ideal.exp (s j - M)

/-- The sum of the first `n` values, each weighted by the exponential of its score less `M`. -/
def num (s v : ℕ → EReal) (n : ℕ) (M : EReal) : EReal := ∑ j ∈ Finset.range n, Ideal.exp (s j - M) * v j

theorem exp_nonneg (x : EReal) : 0 ≤ Ideal.exp x := by
  induction x with
  | bot => simp
  | top => simp
  | coe r => simpa using (Real.exp_pos r).le

/-- The factor by which the sums are rescaled is finite. -/
theorem exp_sub_ne_top {M M' : EReal} (h : M ≤ M') : Ideal.exp (M - M') ≠ ⊤ := by
  induction M' with
  | bot => obtain rfl := le_bot_iff.mp h; simp
  | top => simp
  | coe b =>
    induction M with
    | bot => simp
    | top => simp at h
    | coe a => rw [← EReal.coe_sub, Ideal.exp_coe]; exact EReal.coe_ne_top _

/-- Rescaling one exponential from one maximum to a greater one. -/
theorem exp_rescale {s M M' : EReal} (h : s ≤ M) (h' : M ≤ M') :
    Ideal.exp (M - M') * Ideal.exp (s - M) = Ideal.exp (s - M') := by
  induction M' with
  | bot =>
    obtain rfl := le_bot_iff.mp h'
    obtain rfl := le_bot_iff.mp h
    simp
  | top => simp
  | coe b =>
    induction M with
    | bot => obtain rfl := le_bot_iff.mp h; simp
    | top => simp at h'
    | coe a =>
      induction s with
      | bot => simp
      | top => simp at h
      | coe x =>
        rw [← EReal.coe_sub, ← EReal.coe_sub, ← EReal.coe_sub, Ideal.exp_coe, Ideal.exp_coe, Ideal.exp_coe,
          ← EReal.coe_mul, ← Real.exp_add]
        congr 2; ring

theorem le_top {s : ℕ → EReal} {n j : ℕ} (h : j < n) : s j ≤ top s n :=
  Finset.le_sup (f := s) (Finset.mem_range.mpr h)

@[simp] theorem top_zero (s : ℕ → EReal) : top s 0 = ⊥ := by simp [top]
@[simp] theorem den_zero (s : ℕ → EReal) (M : EReal) : den s 0 M = 0 := by simp [den]
@[simp] theorem num_zero (s v : ℕ → EReal) (M : EReal) : num s v 0 M = 0 := by simp [num]

theorem top_congr {s s' : ℕ → EReal} {n : ℕ} (h : ∀ j < n, s j = s' j) : top s n = top s' n :=
  Finset.sup_congr rfl fun j hj => h j (Finset.mem_range.mp hj)
theorem den_congr {s s' : ℕ → EReal} {n : ℕ} (h : ∀ j < n, s j = s' j) (M : EReal) : den s n M = den s' n M :=
  Finset.sum_congr rfl fun j hj => by rw [h j (Finset.mem_range.mp hj)]
theorem num_congr {s s' v v' : ℕ → EReal} {n : ℕ} (h : ∀ j < n, s j = s' j) (h' : ∀ j < n, v j = v' j) (M : EReal) :
    num s v n M = num s' v' n M :=
  Finset.sum_congr rfl fun j hj => by rw [h j (Finset.mem_range.mp hj), h' j (Finset.mem_range.mp hj)]

/-- The maximum after a further tile of `k` keys. -/
theorem top_add (s : ℕ → EReal) (n k : ℕ) :
    top s (n + k) = max (top s n) (Finset.univ.sup fun j : Fin k => s (n + j)) := by
  apply le_antisymm
  · refine Finset.sup_le fun j hj => ?_
    rcases lt_or_ge j n with h | h
    · exact le_trans (le_top h) (le_max_left _ _)
    · have hj' := Finset.mem_range.mp hj
      refine le_trans ?_ (le_max_right _ _)
      have := Finset.le_sup (f := fun j : Fin k => s (n + j)) (Finset.mem_univ ⟨j - n, by omega⟩)
      simpa [Nat.add_sub_cancel' h] using this
  · refine max_le (Finset.sup_le fun j hj => le_top (by have := Finset.mem_range.mp hj; omega))
      (Finset.sup_le fun j _ => le_top (by omega))

theorem top_le_add (s : ℕ → EReal) (n k : ℕ) : top s n ≤ top s (n + k) := by
  rw [top_add]; exact le_max_left _ _

theorem sum_split (f : ℕ → EReal) (n k : ℕ) :
    ∑ j ∈ Finset.range (n + k), f j = ∑ j ∈ Finset.range n, f j + ∑ j : Fin k, f (n + j) := by
  rw [Finset.sum_range_add, Fin.sum_univ_eq_sum_range (fun j => f (n + j)) k]

theorem mul_sum_of_nonneg {c : EReal} (h : 0 ≤ c) (h' : c ≠ ⊤) (f : ℕ → EReal) (n : ℕ) :
    c * ∑ j ∈ Finset.range n, f j = ∑ j ∈ Finset.range n, c * f j := by
  induction n with
  | zero => simp
  | succ n ih => rw [Finset.sum_range_succ, Finset.sum_range_succ, EReal.left_distrib_of_nonneg_of_ne_top h h', ih]

/-- The sum of exponentials after a further tile. -/
theorem den_add (s : ℕ → EReal) (n k : ℕ) :
    den s (n + k) (top s (n + k)) = Ideal.exp (top s n - top s (n + k)) * den s n (top s n)
      + ∑ j : Fin k, Ideal.exp (s (n + j) - top s (n + k)) := by
  unfold den
  rw [sum_split, mul_sum_of_nonneg (exp_nonneg _) (exp_sub_ne_top (top_le_add s n k))]
  congr 1
  exact Finset.sum_congr rfl fun j hj => (exp_rescale (le_top (Finset.mem_range.mp hj)) (top_le_add s n k)).symm

/-- The weighted sum after a further tile. -/
theorem num_add (s v : ℕ → EReal) (n k : ℕ) :
    num s v (n + k) (top s (n + k)) = num s v n (top s n) * Ideal.exp (top s n - top s (n + k))
      + ∑ j : Fin k, Ideal.exp (s (n + j) - top s (n + k)) * v (n + j) := by
  unfold num
  rw [sum_split, mul_comm, mul_sum_of_nonneg (exp_nonneg _) (exp_sub_ne_top (top_le_add s n k))]
  congr 1
  refine Finset.sum_congr rfl fun j hj => ?_
  rw [← mul_assoc, exp_rescale (le_top (Finset.mem_range.mp hj)) (top_le_add s n k)]

/-! ## Finite scores, and a causal mask -/

/-- The scores of a query at position `t`: those of the later keys are the least extended real. -/
def masked (x : ℕ → ℝ) (t : ℕ) (j : ℕ) : EReal := if j ≤ t then (x j : EReal) else ⊥

/-- The greatest score up to `t`. -/
def peak (x : ℕ → ℝ) (t : ℕ) : ℝ := (Finset.range (t + 1)).sup' ⟨0, by simp⟩ x

/-- The sum of the exponentials up to `t`. -/
def mass (x : ℕ → ℝ) (t : ℕ) : ℝ := ∑ j ∈ Finset.range (t + 1), Real.exp (x j - peak x t)

/-- The softmax weight of key `j`. -/
def soft (x : ℕ → ℝ) (t : ℕ) (j : ℕ) : ℝ := (if j ≤ t then Real.exp (x j - peak x t) else 0) / mass x t

theorem mass_pos (x : ℕ → ℝ) (t : ℕ) : 0 < mass x t :=
  Finset.sum_pos (fun j _ => Real.exp_pos _) ⟨0, by simp⟩

theorem top_masked (x : ℕ → ℝ) {t n : ℕ} (h : t < n) : top (masked x t) n = (peak x t : EReal) := by
  apply le_antisymm
  · refine Finset.sup_le fun j _ => ?_
    unfold masked
    split
    · next hj => exact EReal.coe_le_coe_iff.mpr (Finset.le_sup' x (Finset.mem_range.mpr (by omega)))
    · exact bot_le
  · obtain ⟨j, hj, he⟩ := Finset.exists_mem_eq_sup' (⟨0, by simp⟩ : (Finset.range (t + 1)).Nonempty) x
    have hj' : j ≤ t := by have := Finset.mem_range.mp hj; omega
    have : masked x t j = (peak x t : EReal) := by
      unfold masked peak; rw [if_pos hj', he]
    rw [← this]
    exact le_top (by omega)

theorem exp_masked (x : ℕ → ℝ) (t j : ℕ) (M : ℝ) :
    Ideal.exp (masked x t j - (M : EReal)) = ((if j ≤ t then Real.exp (x j - M) else 0 : ℝ) : EReal) := by
  unfold masked
  split
  · rw [← EReal.coe_sub, Ideal.exp_coe]
  · simp

theorem sum_coe (f : ℕ → ℝ) (n : ℕ) : ∑ j ∈ Finset.range n, (f j : EReal) = ((∑ j ∈ Finset.range n, f j : ℝ) : EReal) := by
  induction n with
  | zero => simp
  | succ n ih => rw [Finset.sum_range_succ, Finset.sum_range_succ, ih, EReal.coe_add]

theorem sum_cut (f : ℕ → ℝ) {t n : ℕ} (h : t < n) :
    ∑ j ∈ Finset.range n, (if j ≤ t then f j else 0) = ∑ j ∈ Finset.range (t + 1), f j := by
  rw [← Finset.sum_filter]
  congr 1
  ext j; simp; omega

theorem den_masked (x : ℕ → ℝ) {t n : ℕ} (h : t < n) : den (masked x t) n (peak x t : EReal) = (mass x t : EReal) := by
  unfold den
  rw [Finset.sum_congr rfl fun j _ => exp_masked x t j _, sum_coe, sum_cut _ h]
  rfl

/-- The weighted sum divided by the sum of the exponentials is the softmax average. -/
theorem ratio_masked (x v : ℕ → ℝ) {t n N : ℕ} (h : t < n) (h' : t < N) :
    Ideal.div (num (masked x t) (fun j => (v j : EReal)) n (top (masked x t) n))
      (den (masked x t) n (top (masked x t) n)) = ((∑ j ∈ Finset.range N, soft x t j * v j : ℝ) : EReal) := by
  rw [top_masked x h, den_masked x h]
  have e : num (masked x t) (fun j => (v j : EReal)) n (peak x t : EReal)
      = ((∑ j ∈ Finset.range N, (if j ≤ t then Real.exp (x j - peak x t) else 0) * v j : ℝ) : EReal) := by
    unfold num
    rw [Finset.sum_congr rfl fun j _ => by rw [exp_masked x t j _, ← EReal.coe_mul], sum_coe]
    congr 1
    simp only [ite_mul, zero_mul]
    rw [sum_cut _ h, sum_cut _ h']
  rw [e, Ideal.div_coe (ne_of_gt (mass_pos x t)), ← EReal.coe_mul, mul_one_div]
  congr 1
  rw [Finset.sum_div]
  refine Finset.sum_congr rfl fun j _ => ?_
  unfold soft; ring

/-- A weight as a quotient of extended reals. -/
theorem weight_masked (x : ℕ → ℝ) {t n : ℕ} (h : t < n) (j : ℕ) :
    Ideal.div (Ideal.exp (masked x t j - top (masked x t) n)) (den (masked x t) n (top (masked x t) n))
      = (soft x t j : EReal) := by
  rw [top_masked x h, den_masked x h, exp_masked, Ideal.div_coe (ne_of_gt (mass_pos x t)), ← EReal.coe_mul, mul_one_div]
  rfl

/-- Softmax is unchanged when every score is moved by the same number. -/
theorem soft_shift (x y : ℕ → ℝ) (d : ℝ) (t : ℕ) (h : ∀ j ≤ t, y j = x j + d) (j : ℕ) : soft y t j = soft x t j := by
  have hp : peak y t = peak x t + d := by
    apply le_antisymm
    · refine Finset.sup'_le _ _ fun j hj => ?_
      have := Finset.mem_range.mp hj
      rw [h j (by omega)]
      exact add_le_add_left (Finset.le_sup' x hj) d
    · rw [← le_sub_iff_add_le]
      refine Finset.sup'_le _ _ fun j hj => ?_
      have := Finset.mem_range.mp hj
      rw [le_sub_iff_add_le, ← h j (by omega)]
      exact Finset.le_sup' y hj
  have hm : mass y t = mass x t := by
    refine Finset.sum_congr rfl fun j hj => ?_
    have := Finset.mem_range.mp hj
    rw [h j (by omega), hp]; congr 1; ring
  unfold soft
  rw [hm]
  split
  · next hj => rw [h j hj, hp]; congr 2; ring
  · rfl

end Cert.Online
-- ==== Proof.Tiles.lean ====
/- One tile of keys in the one-pass softmax: how the kernels' vector operations on a tile of 512 queries by 512 keys
   advance the running maximum, the running sum and the running weighted sum. -/
module

public import proofs.«01_k».proof.Proof.Gen.FoxIdeal.Value
public import proofs.«01_k».proof.Proof.Softmax
public import Idealize.ShloMosaic.Lib.Pipeline.ValueKit

@[expose] public section

set_option maxRecDepth 16384

noncomputable section

open Idealize.ShloMosaic Idealize.ShloMosaic.TcCoe Idealize.SL.Sem

namespace Cert.Online

open Cert.FoxIdeal Cert.FoxIdeal.Gen

/-- The greatest score of every query in the tile. -/
def rowMax (X : FVec Ideal S512x512 .f32) : FVec Ideal S512 .f32 :=
  multiReduction .maximumf [1] S512 X 0xFF800000#32 reduces_S512x512_S512 (.inl rfl) rfl

/-- The running maximum after the tile `X`, from that before it. -/
def nextMax (X : FVec Ideal S512x512 .f32) (m : Vec Ideal S1x512x128 .f32) : FVec Ideal S512x128 .f32 :=
  k0_pay62 (k0_pay60 m) (rowMax X)

/-- The factor by which the sums so far are rescaled. -/
def rescale (X : FVec Ideal S512x512 .f32) (m : Vec Ideal S1x512x128 .f32) : FVec Ideal S512x128 .f32 :=
  k0_pay63 (k0_pay60 m) (rowMax X)

/-- The tile's exponentials. -/
def probs (X : FVec Ideal S512x512 .f32) (m : Vec Ideal S1x512x128 .f32) : FVec Ideal S512x512 .f32 :=
  k0_pay64 X (k0_pay60 m) (rowMax X)

/-- The running sum after the tile. -/
def nextSum (X : FVec Ideal S512x512 .f32) (m l : Vec Ideal S1x512x128 .f32) : FVec Ideal S1x512x128 .f32 :=
  k0_pay65 X (k0_pay60 m) (rowMax X) l

/-- The tile `X` holds the scores of the 512 keys from `n` on. -/
def IsTile (X : FVec Ideal S512x512 .f32) (s : Fin 512 → ℕ → EReal) (n : ℕ) : Prop :=
  ∀ r j : Fin 512, X (ix2 r j) = s r (n + j)

/-- `m` holds the running maximum over the first `n` keys, in every lane. -/
def IsMax (m : Vec Ideal S1x512x128 .f32) (s : Fin 512 → ℕ → EReal) (n : ℕ) : Prop :=
  ∀ (r : Fin 512) (l : Fin 128), m (ix3 0 r l) = top (s r) n

/-- `a` holds the running sum over the first `n` keys, in every lane. -/
def IsSum (a : Vec Ideal S1x512x128 .f32) (s : Fin 512 → ℕ → EReal) (n : ℕ) : Prop :=
  ∀ (r : Fin 512) (l : Fin 128), a (ix3 0 r l) = den (s r) n (top (s r) n)

variable {X X' : FVec Ideal S512x512 .f32} {m m' a a' : Vec Ideal S1x512x128 .f32} {s s' : Fin 512 → ℕ → EReal} {n : ℕ}

theorem ofBits_bot : Ideal.ofBits FTy.f32 0xFF800000#32 = ⊥ := by
  simp [Ideal.ofBits, Ideal.ieee]

/-- A choice by lane: the first 64 lanes take the first value. -/
theorem select_lane {α : Type} (d : Fin 128) (x y : α) :
    Scalar.select (IntOp.cmpi .slt (BitVec.ofNat 32 d.val) 64#32) x y = if d.val < 64 then x else y := by
  have h := WordCmp.cmpi_slt_ofNat (w := 32) (a := d.val) (b := 64) (by omega) (by omega)
  rw [h]
  by_cases hd : d.val < 64 <;> simp [hd, Scalar.select]

theorem rowMax_eq (hX : IsTile X s n) (r : Fin 512) :
    rowMax X (ix1 r) = Finset.univ.sup fun j : Fin 512 => s r (n + j) := by
  pointwise [rowMax]
  rw [ofBits_bot]
  simp only [hX r _]
  rfl

theorem nextMax_eq (hX : IsTile X s n) (hm : IsMax m s n) (r : Fin 512) (l : Fin 128) :
    nextMax X m (ix2 r l) = top (s r) (n + 512) := by
  rw [top_add, ← rowMax_eq hX, ← hm r l]
  generalize hR : rowMax X = R
  pointwise [nextMax, hR, k0_pay62, k0_pay60]

theorem rescale_eq (hX : IsTile X s n) (hm : IsMax m s n) (r : Fin 512) (l : Fin 128) :
    rescale X m (ix2 r l) = Ideal.exp (top (s r) n - top (s r) (n + 512)) := by
  have h := nextMax_eq hX hm r l
  unfold nextMax at h
  unfold rescale k0_pay63
  generalize k0_pay62 (k0_pay60 m) (rowMax X) = Y at *
  pointwise [k0_pay60]
  rw [h, hm r l]

theorem probs_eq (hX : IsTile X s n) (hm : IsMax m s n) (r j : Fin 512) :
    probs X m (ix2 r j) = Ideal.exp (s r (n + j) - top (s r) (n + 512)) := by
  have h := fun l => nextMax_eq hX hm r l
  unfold nextMax at h
  unfold probs k0_pay64
  generalize k0_pay62 (k0_pay60 m) (rowMax X) = Y at *
  pointwise
  rw [hX r j]
  congr 2
  split_ifs <;> exact h _

theorem nextSum_eq (hX : IsTile X s n) (hm : IsMax m s n) (ha : IsSum a s n) : IsSum (nextSum X m a) s (n + 512) := by
  intro r l
  have h := fun j => probs_eq hX hm r j
  have h' := rescale_eq hX hm r l
  unfold probs at h
  unfold rescale at h'
  unfold nextSum k0_pay65
  generalize k0_pay64 X (k0_pay60 m) (rowMax X) = Y at *
  generalize k0_pay63 (k0_pay60 m) (rowMax X) = Z at *
  pointwise
  rw [den_add, h', ha r l]
  simp only [h]

theorem nextMax_isMax (hX : IsTile X s n) (hm : IsMax m s n) : IsMax (k0_pay66 (k0_pay60 m) (rowMax X)) s (n + 512) := by
  intro r l
  have h := nextMax_eq hX hm r l
  unfold nextMax at h
  unfold k0_pay66
  generalize k0_pay62 (k0_pay60 m) (rowMax X) = Y at *
  pointwise
  exact h

/-- The forgetting attention's running weighted sum after the tile: the first 64 columns belong to the first head, the
    others to the second, and each head's weights meet values that are zero outside its columns. -/
theorem nextAcc_fox {V0 V1 : FVec Ideal S512x128 .bf16} {v : Fin 128 → ℕ → EReal} {acc : Vec Ideal S1x512x128 .f32}
    (hX : IsTile X s n) (hm : IsMax m s n) (hX' : IsTile X' s' n) (hm' : IsMax m' s' n)
    (hV0 : ∀ (j : Fin 512) (d : Fin 128), V0 (ix2 j d) = if d.val < 64 then v d (n + j) else 0)
    (hV1 : ∀ (j : Fin 512) (d : Fin 128), V1 (ix2 j d) = if d.val < 64 then 0 else v d (n + j))
    (hacc : ∀ (r : Fin 512) (d : Fin 128), acc (ix3 0 r d) =
      if d.val < 64 then num (s r) (v d) n (top (s r) n) else num (s' r) (v d) n (top (s' r) n))
    (r : Fin 512) (d : Fin 128) :
    k0_pay75 k0_pay40 V1 (rescale X m) (k0_pay67 V0 X (k0_pay60 m) (rowMax X)) (rescale X' m') (probs X' m') acc
      (ix3 0 r d) = if d.val < 64 then num (s r) (v d) (n + 512) (top (s r) (n + 512))
        else num (s' r) (v d) (n + 512) (top (s' r) (n + 512)) := by
  have h := fun j => probs_eq hX hm r j
  have h' := fun j => probs_eq hX' hm' r j
  have g := rescale_eq hX hm r d
  have g' := rescale_eq hX' hm' r d
  unfold probs at h
  unfold k0_pay67
  generalize k0_pay64 X (k0_pay60 m) (rowMax X) = Y at *
  generalize probs X' m' = Y' at *
  generalize rescale X m = Z at *
  generalize rescale X' m' = Z' at *
  pointwise [k0_pay75, k0_pay40]
  simp only [h, h', hV0, hV1, g, g']
  rw [hacc, select_lane]
  by_cases hd : d.val < 64
  · simp only [hd, if_true, mul_zero, Finset.sum_const_zero, add_zero]
    rw [num_add]
  · simp only [hd, if_false, mul_zero, Finset.sum_const_zero, zero_add]
    rw [num_add]

/-- One head's running weighted sum after the tile. -/
theorem nextAcc_one {V : FVec Ideal S512x128 .bf16} {v : Fin 128 → ℕ → EReal} {acc : Vec Ideal S1x512x128 .f32}
    (hX : IsTile X s n) (hm : IsMax m s n) (hV : ∀ (j : Fin 512) (d : Fin 128), V (ix2 j d) = v d (n + j))
    (hacc : ∀ (r : Fin 512) (d : Fin 128), acc (ix3 0 r d) = num (s r) (v d) n (top (s r) n))
    (r : Fin 512) (d : Fin 128) :
    acc (ix3 0 r d) * rescale X m (ix2 r d) + k0_pay67 V X (k0_pay60 m) (rowMax X) (ix2 r d)
      = num (s r) (v d) (n + 512) (top (s r) (n + 512)) := by
  have h := fun j => probs_eq hX hm r j
  unfold probs at h
  rw [num_add, hacc, rescale_eq hX hm]
  unfold k0_pay67
  generalize k0_pay64 X (k0_pay60 m) (rowMax X) = Y at *
  pointwise
  simp only [h, hV]

end Cert.Online
-- ==== Proof.FoxTrip.lean ====
/- One trip of the forgetting attention's loop over key tiles: what it leaves in the three scratch buffers, and how that
   advances the running maximum, the running sum and the running weighted sum of both heads. -/
module

public import proofs.«01_k».proof.Proof.Tiles
public import Idealize.ShloMosaic.Lib.WritesUnit

@[expose] public section

set_option maxRecDepth 16384

noncomputable section

open Idealize.ShloMosaic Idealize.ShloMosaic.TcCoe Idealize.SL.Sem

namespace Cert.FoxIdeal.Attn

open Cert.FoxIdeal Cert.FoxIdeal.Gen Cert.Online

/-! ## The scratch buffers' parts -/

/-- The first head's part of a buffer of two heads. -/
abbrev fst : Rect S2x512x128 := Rect.unit ![0, 0, 0] S1x512x128.size inb_S2x512x128_S1x512x128_0_0_0

/-- The second head's part. -/
abbrev snd : Rect S2x512x128 := Rect.unit ![1, 0, 0] S1x512x128.size inb_S2x512x128_S1x512x128_1_0_0

/-- The whole of the buffer of weighted sums. -/
abbrev all : Rect S1x512x128 := Rect.unit ![0, 0, 0] S1x512x128.size inb_S1x512x128_S1x512x128_0_0_0

section Reads

variable {σ : RefSig} {κ : Kind} {sp : Space} {S : Shape} {e : EltTy} {Val : EltTy → Type}

/-- A part read back after it was written last holds what was written. -/
theorem read_same (v : View σ κ sp S e) (f : v.ty.Contents Val) (r : Rect S) (w : r.shape.Idx → Val e)
    (L : List (View.Piece Val S e)) : v.readAt Val r.toLoadRect (v.writes Val f (⟨r, w⟩ :: L)) = w :=
  funext fun x => View.read_writes_cons_emb v f r w L x

/-- Writing the second head's part leaves the first's. -/
theorem read_fst (v : View σ κ sp S2x512x128 e) (f : v.ty.Contents Val) (w : snd.shape.Idx → Val e)
    (L : List (View.Piece Val S2x512x128 e)) :
    v.readAt Val fst.toLoadRect (v.writes Val f (⟨snd, w⟩ :: L)) = v.readAt Val fst.toLoadRect (v.writes Val f L) := by
  funext x
  refine View.read_writes_cons_unit_of_not_mem v f _ w L _ rfl 0 (.inl ?_)
  have h : (x 0).val < 1 := (x 0).isLt
  show 0 + 1 * (x 0).val < 1
  omega

/-- Writing the first head's part leaves the second's. -/
theorem read_snd (v : View σ κ sp S2x512x128 e) (f : v.ty.Contents Val) (w : fst.shape.Idx → Val e)
    (L : List (View.Piece Val S2x512x128 e)) :
    v.readAt Val snd.toLoadRect (v.writes Val f (⟨fst, w⟩ :: L)) = v.readAt Val snd.toLoadRect (v.writes Val f L) := by
  funext x
  refine View.read_writes_cons_unit_of_not_mem v f _ w L _ rfl 0 (.inr ?_)
  show 0 + 1 ≤ 1 + 1 * (x 0).val
  omega

end Reads

/-! ## Tiles of scores and of values -/

/-- The lane mask: 1 at the first head's 64 columns. -/
abbrev lanes : IVec S1x128 1 := k0_pay40

/-- The first head's tile of scores. -/
abbrev score0 (q : FVec Ideal S512x128 .bf16) (ct : FVec Ideal S1x1 .f32) (kt : Vec Ideal S512x128 .bf16)
    (cj : Vec Ideal S1x1x512 .f32) : FVec Ideal S512x512 .f32 := k0_pay7 lanes q ct kt cj

/-- The second head's. -/
abbrev score1 (q : FVec Ideal S512x128 .bf16) (ct : FVec Ideal S1x1 .f32) (kt : Vec Ideal S512x128 .bf16)
    (cj : Vec Ideal S1x1x512 .f32) : FVec Ideal S512x512 .f32 := k0_pay15 q (k0_pay3 lanes kt) (k0_pay6 ct cj)

/-- Column `x` of the first head, among the 128 columns of both. -/
abbrev lo (x : Fin 64) : Fin 128 := ⟨x.val, by omega⟩

/-- Column `x` of the second head. -/
abbrev hi (x : Fin 64) : Fin 128 := ⟨64 + x.val, by omega⟩

theorem sum_lo (a : Fin 128 → EReal) : (∑ x : Fin 128, if x.val < 64 then a x else 0) = ∑ x : Fin 64, a (lo x) := by
  refine (Fin.sum_univ_add (a := 64) (b := 64) fun x : Fin (64 + 64) => if x.val < 64 then a x else 0).trans ?_
  rw [Finset.sum_eq_zero (s := Finset.univ) (f := fun i : Fin 64 => if (Fin.natAdd 64 i).val < 64 then a (Fin.natAdd 64 i) else 0)
    fun x _ => if_neg (by simp), add_zero]
  exact Finset.sum_congr rfl fun x _ => if_pos x.isLt

theorem sum_hi (a : Fin 128 → EReal) : (∑ x : Fin 128, if x.val < 64 then 0 else a x) = ∑ x : Fin 64, a (hi x) := by
  refine (Fin.sum_univ_add (a := 64) (b := 64) fun x : Fin (64 + 64) => if x.val < 64 then 0 else a x).trans ?_
  rw [Finset.sum_eq_zero (s := Finset.univ) (f := fun i : Fin 64 => if (Fin.castAdd 64 i).val < 64 then 0 else a (Fin.castAdd 64 i))
    fun x _ => if_pos x.isLt, zero_add]
  exact Finset.sum_congr rfl fun x _ => if_neg (by simp)

theorem score0_eq (q : FVec Ideal S512x128 .bf16) (ct : FVec Ideal S1x1 .f32) (kt : Vec Ideal S512x128 .bf16)
    (cj : Vec Ideal S1x1x512 .f32) (r j : Fin 512) :
    score0 q ct kt cj (ix2 r j) = (∑ x : Fin 64, q (ix2 r (lo x)) * kt (ix2 j (lo x)))
      + (ct (ix2 0 0) - cj (ix3 0 0 j)) := by
  pointwise [k0_pay7, k0_pay40, k0_pay2]
  simp only [select_lane]
  rw [sum_lo fun x => q (ix2 r x) * kt (ix2 j x)]

theorem score1_eq (q : FVec Ideal S512x128 .bf16) (ct : FVec Ideal S1x1 .f32) (kt : Vec Ideal S512x128 .bf16)
    (cj : Vec Ideal S1x1x512 .f32) (r j : Fin 512) :
    score1 q ct kt cj (ix2 r j) = (∑ x : Fin 64, q (ix2 r (hi x)) * kt (ix2 j (hi x)))
      + (ct (ix2 0 0) - cj (ix3 0 0 j)) := by
  pointwise [k0_pay15, k0_pay3, k0_pay6, k0_pay40, k0_pay2]
  simp only [select_lane]
  rw [sum_hi fun x => q (ix2 r x) * kt (ix2 j x)]

theorem value0_eq (vt : Vec Ideal S512x128 .bf16) (j : Fin 512) (d : Fin 128) :
    k0_pay4 lanes vt (ix2 j d) = if d.val < 64 then vt (ix2 j d) else 0 := by
  pointwise [k0_pay4, k0_pay40, k0_pay2]
  simp only [select_lane]

theorem value1_eq (vt : Vec Ideal S512x128 .bf16) (j : Fin 512) (d : Fin 128) :
    k0_pay5 lanes vt (ix2 j d) = if d.val < 64 then 0 else vt (ix2 j d) := by
  pointwise [k0_pay5, k0_pay40, k0_pay2]
  simp only [select_lane]

/-! ## The trip -/

section Trip

variable (c : Dev nD) (i : grid0.Coords)
  (arg2 : Memref sig .tc .vmem S512x128 .bf16) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S1x2x16384 .f32) (harg5 : arg5.IsWhole)
  (arg6 : Memref sig .tc .vmem S512x128 .bf16) (harg6 : arg6.IsWhole)
  (arg7 : Memref sig .tc .vmem S2x512x128 .f32) (harg7 : arg7.IsWhole)
  (arg8 : Memref sig .tc .vmem S2x512x128 .f32) (harg8 : arg8.IsWhole)
  (arg9 : Memref sig .tc .vmem S1x512x128 .f32) (harg9 : arg9.IsWhole)
  (arg1 : BitVec 32) (q : FVec Ideal S512x128 .bf16) (ct ct' : FVec Ideal S1x1 .f32) (c0 c1 v30 : BitVec 32)
  (X3 : BufTy.Contents (Elt Ideal) arg3.view.ty) (X4 : BufTy.Contents (Elt Ideal) arg4.view.ty)
  (X5 : BufTy.Contents (Elt Ideal) arg5.view.ty) (k : Fin (k0_t1_loop i).trips)
  (f7 : BufTy.Contents (Elt Ideal) arg7.view.ty) (f8 : BufTy.Contents (Elt Ideal) arg8.view.ty)
  (f9 : BufTy.Contents (Elt Ideal) arg9.view.ty)

/-- The keys of trip `k`. -/
abbrev keyTile : Vec Ideal S512x128 .bf16 :=
  arg3.view.readAt (Elt Ideal) (Rect.unit (s := S16384x128) (k0_off3 i k) S512x128.size (k0_off3_inb i k)).toLoadRect X3

/-- The values of trip `k`. -/
abbrev valueTile : Vec Ideal S512x128 .bf16 :=
  arg4.view.readAt (Elt Ideal) (Rect.unit (s := S16384x128) (k0_off3 i k) S512x128.size (k0_off3_inb i k)).toLoadRect X4

/-- The first head's gates of trip `k`. -/
abbrev gateTile0 : Vec Ideal S1x1x512 .f32 :=
  arg5.view.readAt (Elt Ideal) (Rect.unit (s := S1x2x16384) (k0_off4 i k) S1x1x512.size (k0_off4_inb i k)).toLoadRect X5

/-- The second head's. -/
abbrev gateTile1 : Vec Ideal S1x1x512 .f32 :=
  arg5.view.readAt (Elt Ideal) (Rect.unit (s := S1x2x16384) (k0_off5 i k) S1x1x512.size (k0_off5_inb i k)).toLoadRect X5

/-- What a trip writes, given the two tiles of scores, the values and what it finds. -/
abbrev leaves (X X' : FVec Ideal S512x512 .f32) (vt : Vec Ideal S512x128 .bf16) (m m' a a' acc : Vec Ideal S1x512x128 .f32) :
    List (View.Piece (Elt Ideal) S2x512x128 .f32) × List (View.Piece (Elt Ideal) S2x512x128 .f32)
      × List (View.Piece (Elt Ideal) S1x512x128 .f32) :=
  ([⟨snd, k0_pay66 (k0_pay60 m') (rowMax X')⟩, ⟨fst, k0_pay66 (k0_pay60 m) (rowMax X)⟩],
   [⟨snd, nextSum X' m' a'⟩, ⟨fst, nextSum X m a⟩],
   [⟨all, k0_pay75 lanes (k0_pay5 lanes vt) (rescale X m) (k0_pay67 (k0_pay4 lanes vt) X (k0_pay60 m) (rowMax X))
      (rescale X' m') (probs X' m') acc⟩])

theorem trip_eq : tripL_k0_t1 (F := Ideal) Variants.none c none i arg2 harg2 arg3 harg3 arg4 harg4 arg5 harg5 arg6 harg6
      arg7 harg7 arg8 harg8 arg9 harg9 arg1 lanes q ct ct' c0 c1 v30 X3 X4 X5 k f7 f8 f9
    = leaves (score0 q ct (keyTile i arg3 X3 k) (gateTile0 i arg5 X5 k))
        (score1 q ct' (keyTile i arg3 X3 k) (gateTile1 i arg5 X5 k)) (valueTile i arg4 X4 k)
        (arg7.view.readAt (Elt Ideal) fst.toLoadRect f7) (arg7.view.readAt (Elt Ideal) snd.toLoadRect f7)
        (arg8.view.readAt (Elt Ideal) fst.toLoadRect f8) (arg8.view.readAt (Elt Ideal) snd.toLoadRect f8)
        (arg9.view.readAt (Elt Ideal) all.toLoadRect f9) := by
  unfold tripL_k0_t1 trip_k0_t1
  rfl

end Trip

/-! ## What the buffers hold, and the step -/

section Step

variable {ρ7 : View sig .tc .vmem S2x512x128 .f32} {ρ8 : View sig .tc .vmem S2x512x128 .f32}
  {ρ9 : View sig .tc .vmem S1x512x128 .f32}

/-- The three buffers hold the running maxima, sums and weighted sums of both heads over the first `n` keys. -/
structure Holds (ρ7 : View sig .tc .vmem S2x512x128 .f32) (ρ8 : View sig .tc .vmem S2x512x128 .f32)
    (ρ9 : View sig .tc .vmem S1x512x128 .f32) (f7 : ρ7.ty.Contents (Elt Ideal)) (f8 : ρ8.ty.Contents (Elt Ideal))
    (f9 : ρ9.ty.Contents (Elt Ideal)) (s s' : Fin 512 → ℕ → EReal) (v : Fin 128 → ℕ → EReal) (n : ℕ) : Prop where
  max0 : IsMax (ρ7.readAt (Elt Ideal) fst.toLoadRect f7) s n
  max1 : IsMax (ρ7.readAt (Elt Ideal) snd.toLoadRect f7) s' n
  sum0 : IsSum (ρ8.readAt (Elt Ideal) fst.toLoadRect f8) s n
  sum1 : IsSum (ρ8.readAt (Elt Ideal) snd.toLoadRect f8) s' n
  acc : ∀ (r : Fin 512) (d : Fin 128), ρ9.readAt (Elt Ideal) all.toLoadRect f9 (ix3 0 r d)
    = if d.val < 64 then num (s r) (v d) n (top (s r) n) else num (s' r) (v d) n (top (s' r) n)

theorem Holds.step {f7 : ρ7.ty.Contents (Elt Ideal)} {f8 : ρ8.ty.Contents (Elt Ideal)} {f9 : ρ9.ty.Contents (Elt Ideal)}
    {s s' : Fin 512 → ℕ → EReal} {v : Fin 128 → ℕ → EReal} {n : ℕ} (h : Holds ρ7 ρ8 ρ9 f7 f8 f9 s s' v n)
    {X X' : FVec Ideal S512x512 .f32} {vt : Vec Ideal S512x128 .bf16} (hX : IsTile X s n) (hX' : IsTile X' s' n)
    (hv : ∀ (j : Fin 512) (d : Fin 128), vt (ix2 j d) = v d (n + j)) {L} (hL : L = leaves X X' vt
      (ρ7.readAt (Elt Ideal) fst.toLoadRect f7) (ρ7.readAt (Elt Ideal) snd.toLoadRect f7)
      (ρ8.readAt (Elt Ideal) fst.toLoadRect f8) (ρ8.readAt (Elt Ideal) snd.toLoadRect f8)
      (ρ9.readAt (Elt Ideal) all.toLoadRect f9)) :
    Holds ρ7 ρ8 ρ9 (ρ7.writes (Elt Ideal) f7 L.1) (ρ8.writes (Elt Ideal) f8 L.2.1) (ρ9.writes (Elt Ideal) f9 L.2.2)
      s s' v (n + 512) := by
  subst hL
  refine ⟨?_, ?_, ?_, ?_, ?_⟩
  · rw [read_fst, read_same]; exact nextMax_isMax hX h.max0
  · rw [read_same]; exact nextMax_isMax hX' h.max1
  · rw [read_fst, read_same]; exact nextSum_eq hX h.max0 h.sum0
  · rw [read_same]; exact nextSum_eq hX' h.max1 h.sum1
  · rw [read_same]
    exact nextAcc_fox hX h.max0 hX' h.max1 (fun j d => by rw [value0_eq, hv]) (fun j d => by rw [value1_eq, hv]) h.acc

end Step

/-! ## The words that place the tiles -/

theorem off_word (k : ℕ) (h : k < 32) : (Scalar.indexCast (Scalar.muli (BitVec.ofNat 32 k) 512#32)).toNat = 512 * k := by
  show (BitVec.ofNat 32 k * 512#32).toNat = _
  rw [BitVec.toNat_mul, BitVec.toNat_ofNat, BitVec.toNat_ofNat]
  omega

theorem iv_word (k : ℕ) : Scf.iv 0#32 1#32 k = BitVec.ofNat 32 k := by
  simp [Scf.iv]

theorem trips_eq (i : grid0.Coords) : (k0_t1_loop i).trips = (i 1).val :=
  (by decide +kernel : ∀ n : Fin 32, (Scf.Loop.mk 0#32 (Scalar.addi 0#32 (Scalar.muli (Scalar.divsi
    (Scalar.subi (BitVec.ofNat 32 n.val) 0#32) 1#32) 1#32)) 1#32).trips = n.val) (i 1)

theorem empty_eq (i : grid0.Coords) : (k0_t2_loop i).trips = 0 :=
  (by decide +kernel : ∀ n : Fin 32, (Scf.Loop.mk (Scalar.addi 0#32 (Scalar.muli (Scalar.divsi
    (Scalar.subi (BitVec.ofNat 32 n.val) 0#32) 1#32) 1#32)) (Scalar.addi 0#32 (Scalar.subi (BitVec.ofNat 32 n.val) 0#32))
    1#32).trips = 0) (i 1)

theorem trip_lt (i : grid0.Coords) (k : Fin (k0_t1_loop i).trips) : k.val < 32 :=
  (lt_of_lt_of_eq k.isLt (trips_eq i)).trans (i 1).isLt

theorem off3_eq (i : grid0.Coords) (k : Fin (k0_t1_loop i).trips) : k0_off3 i k = ![512 * k.val, 0] := by
  simp only [k0_off3, iv_word, off_word _ (trip_lt i k)]

theorem off4_eq (i : grid0.Coords) (k : Fin (k0_t1_loop i).trips) : k0_off4 i k = ![0, 0, 512 * k.val] := by
  simp only [k0_off4, iv_word, off_word _ (trip_lt i k)]

theorem off5_eq (i : grid0.Coords) (k : Fin (k0_t1_loop i).trips) : k0_off5 i k = ![0, 1, 512 * k.val] := by
  simp only [k0_off5, iv_word, off_word _ (trip_lt i k)]

theorem off1_eq (i : grid0.Coords) : k0_off1 i = ![0, 0, 512 * (i 1).val] := by
  simp only [k0_off1, off_word _ (i 1).isLt]

theorem off2_eq (i : grid0.Coords) : k0_off2 i = ![0, 1, 512 * (i 1).val] := by
  simp only [k0_off2, off_word _ (i 1).isLt]

theorem off9_eq (i : grid0.Coords) : k0_off9 i = ![512 * (i 1).val, 0] := by
  simp only [k0_off9, off_word _ (i 1).isLt]

theorem off10_eq (i : grid0.Coords) : k0_off10 i = ![0, 0, 512 * (i 1).val] := by
  simp only [k0_off10, off_word _ (i 1).isLt]

theorem off11_eq (i : grid0.Coords) : k0_off11 i = ![0, 1, 512 * (i 1).val] := by
  simp only [k0_off11, off_word _ (i 1).isLt]

end Cert.FoxIdeal.Attn
-- ==== Proof.FoxLoop.lean ====
/- The forgetting attention's loop over the key tiles before the diagonal one, and the diagonal tile: after `k` tiles the
   scratch buffers hold the running maximum, sum and weighted sum over the first `512 k` keys. -/
module

public import proofs.«01_k».proof.Proof.FoxTrip

@[expose] public section

set_option maxRecDepth 16384

noncomputable section

open Idealize.ShloMosaic Idealize.ShloMosaic.TcCoe Idealize.SL.Sem

namespace Cert.FoxIdeal.Attn

open Cert.FoxIdeal Cert.FoxIdeal.Gen Cert.Online

/-! ## The blocks a grid point reads, as real numbers -/

/-- The four input blocks of a grid point hold the real numbers `q`, `k`, `v` and `g`. -/
structure Blocks (x0 : Vec Ideal S512x128 .bf16) (x1 x2 : Vec Ideal S16384x128 .bf16) (x3 : Vec Ideal S1x2x16384 .f32)
    (q : Fin 512 → Fin 128 → ℝ) (k v : ℕ → Fin 128 → ℝ) (g : Fin 2 → ℕ → ℝ) : Prop where
  query : ∀ (r : Fin 512) (d : Fin 128), x0 (ix2 r d) = (q r d : EReal)
  key : ∀ (j : Fin 16384) (d : Fin 128), x1 (ix2 j d) = (k j.val d : EReal)
  value : ∀ (j : Fin 16384) (d : Fin 128), x2 (ix2 j d) = (v j.val d : EReal)
  gate : ∀ (h : Fin 2) (j : Fin 16384), x3 (ix3 0 h j) = (g h j.val : EReal)

/-- The score of query row `r` and key `j`, the gates counted from row `t0` on; `col` is the head's columns. -/
def score (col : Fin 64 → Fin 128) (q : Fin 512 → Fin 128 → ℝ) (k : ℕ → Fin 128 → ℝ) (g : ℕ → ℝ) (t0 : ℕ) (r : Fin 512)
    (j : ℕ) : ℝ := (∑ x : Fin 64, q r (col x) * (1 / 8) * k j (col x)) + (g t0 - g j)

theorem ofBits_eighth : Ideal.ofBits FTy.bf16 0x3E00#16 = ((1 / 8 : ℝ) : EReal) := by
  simp [Ideal.ofBits, Ideal.ieee]
  rw [← EReal.coe_mul]
  norm_num

theorem scaled_eq (x0 : Vec Ideal S512x128 .bf16) (r : Fin 512) (d : Fin 128) :
    (k0_pay41 x0 : FVec Ideal S512x128 .bf16) (ix2 r d) = x0 (ix2 r d) * ((1 / 8 : ℝ) : EReal) := by
  pointwise [k0_pay41]
  rw [ofBits_eighth]

theorem dot_real (a b : Fin 64 → ℝ) (e f : ℝ) :
    (∑ x : Fin 64, (a x : EReal) * ((1 / 8 : ℝ) : EReal) * (b x : EReal)) + ((e : EReal) - (f : EReal))
      = (((∑ x : Fin 64, a x * (1 / 8) * b x) + (e - f) : ℝ) : EReal) := by
  rw [EReal.coe_add, EReal.coe_sub]
  congr 1

section Scores

variable {x0 : Vec Ideal S512x128 .bf16} {q : Fin 512 → Fin 128 → ℝ} {k : ℕ → Fin 128 → ℝ} {g : ℕ → ℝ}
  {ct : FVec Ideal S1x1 .f32} {kt : Vec Ideal S512x128 .bf16} {cj : Vec Ideal S1x1x512 .f32} {t0 n : ℕ}

theorem score0_real (hq : ∀ (r : Fin 512) (d : Fin 128), x0 (ix2 r d) = (q r d : EReal))
    (hc : ct (ix2 0 0) = (g t0 : EReal)) (hk : ∀ (j : Fin 512) (d : Fin 128), kt (ix2 j d) = (k (n + j) d : EReal))
    (hj : ∀ j : Fin 512, cj (ix3 0 0 j) = (g (n + j) : EReal)) (r j : Fin 512) :
    score0 (k0_pay41 x0) ct kt cj (ix2 r j) = (score lo q k g t0 r (n + j) : EReal) := by
  rw [score0_eq, hc, hj]
  simp only [scaled_eq, hq, hk]
  exact dot_real (fun x => q r (lo x)) (fun x => k (n + j) (lo x)) _ _

theorem score1_real (hq : ∀ (r : Fin 512) (d : Fin 128), x0 (ix2 r d) = (q r d : EReal))
    (hc : ct (ix2 0 0) = (g t0 : EReal)) (hk : ∀ (j : Fin 512) (d : Fin 128), kt (ix2 j d) = (k (n + j) d : EReal))
    (hj : ∀ j : Fin 512, cj (ix3 0 0 j) = (g (n + j) : EReal)) (r j : Fin 512) :
    score1 (k0_pay41 x0) ct kt cj (ix2 r j) = (score hi q k g t0 r (n + j) : EReal) := by
  rw [score1_eq, hc, hj]
  simp only [scaled_eq, hq, hk]
  exact dot_real (fun x => q r (hi x)) (fun x => k (n + j) (hi x)) _ _

end Scores

/-! ## The diagonal tile's mask -/

theorem named_mask : (Named.named κ "mask" 0xF149F2CA#32 : Ideal .f32) = ⊥ :=
  IdealRules.named_const.ideal_named_scalar _ _ _ _ rfl

theorem select_diag {α : Type} (r j : Fin 512) (x y : α) :
    Scalar.select (IntOp.cmpi .sle (BitVec.ofNat 32 j.val) (BitVec.ofNat 32 r.val)) x y = if j.val ≤ r.val then x else y := by
  have h := WordCmp.cmpi_sle_ofNat (w := 32) (a := j.val) (b := r.val) (by omega) (by omega)
  rw [h]
  by_cases hd : j.val ≤ r.val <;> simp [hd, Scalar.select]

/-- The first head's scores in the diagonal tile. -/
abbrev diag0 (q : FVec Ideal S512x128 .bf16) (ct : FVec Ideal S1x1 .f32) (kt : Vec Ideal S512x128 .bf16)
    (cj : Vec Ideal S1x1x512 .f32) : FVec Ideal S512x512 .f32 := k0_pay59 lanes q ct kt cj

/-- The second head's. -/
abbrev diag1 (q : FVec Ideal S512x128 .bf16) (ct : FVec Ideal S1x1 .f32) (kt : Vec Ideal S512x128 .bf16)
    (cj : Vec Ideal S1x1x512 .f32) : FVec Ideal S512x512 .f32 := k0_pay68 q (k0_pay54 lanes kt) (k0_pay57 ct cj) k0_pay58

theorem diag0_eq (q : FVec Ideal S512x128 .bf16) (ct : FVec Ideal S1x1 .f32) (kt : Vec Ideal S512x128 .bf16)
    (cj : Vec Ideal S1x1x512 .f32) (r j : Fin 512) :
    diag0 q ct kt cj (ix2 r j) = if j.val ≤ r.val then score0 q ct kt cj (ix2 r j) else ⊥ := by
  rw [show diag0 q ct kt cj = select k0_pay58 (score0 q ct kt cj) (broadcast S512x512 (Named.named κ "mask" 0xF149F2CA#32))
    from rfl]
  generalize score0 q ct kt cj = X
  pointwise [k0_pay58]
  rw [select_diag, named_mask]

theorem diag1_eq (q : FVec Ideal S512x128 .bf16) (ct : FVec Ideal S1x1 .f32) (kt : Vec Ideal S512x128 .bf16)
    (cj : Vec Ideal S1x1x512 .f32) (r j : Fin 512) :
    diag1 q ct kt cj (ix2 r j) = if j.val ≤ r.val then score1 q ct kt cj (ix2 r j) else ⊥ := by
  rw [show diag1 q ct kt cj = select k0_pay58 (score1 q ct kt cj) (broadcast S512x512 (Named.named κ "mask" 0xF149F2CA#32))
    from rfl]
  generalize score1 q ct kt cj = X
  pointwise [k0_pay58]
  rw [select_diag, named_mask]

/-! ## The loop -/

/-- What a load of a whole buffer's part reads, by index. -/
theorem load2 {e : EltTy} {S : Shape} {m : Memref sig .tc .vmem S e} (hm : m.IsWhole) (x : S.Idx → Elt Ideal e) (r : Rect S)
    (y : r.shape.Idx) (z : S.Idx) (h : r.idx y = z) : m.view.readAt (Elt Ideal) r.toLoadRect (hm.unread x) y = x z := by
  rw [View.readAt_eq_ld, Memref.IsWhole.read_unread]
  exact congrArg x h

section Loop

variable (c : Dev nD) (i : grid0.Coords)
  (arg2 : Memref sig .tc .vmem S512x128 .bf16) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S1x2x16384 .f32) (harg5 : arg5.IsWhole)
  (arg6 : Memref sig .tc .vmem S512x128 .bf16) (harg6 : arg6.IsWhole)
  (arg7 : Memref sig .tc .vmem S2x512x128 .f32) (harg7 : arg7.IsWhole)
  (arg8 : Memref sig .tc .vmem S2x512x128 .f32) (harg8 : arg8.IsWhole)
  (arg9 : Memref sig .tc .vmem S1x512x128 .f32) (harg9 : arg9.IsWhole)
  (arg1 : BitVec 32) (ct ct' : FVec Ideal S1x1 .f32) (c0 c1 v30 : BitVec 32)
  {x0 : Vec Ideal S512x128 .bf16} {x1 x2 : Vec Ideal S16384x128 .bf16} {x3 : Vec Ideal S1x2x16384 .f32}
  {q : Fin 512 → Fin 128 → ℝ} {k v : ℕ → Fin 128 → ℝ} {g : Fin 2 → ℕ → ℝ}

/-- The first head's masked scores of the rows of query tile `i`. -/
abbrev row0 (i : grid0.Coords) (q : Fin 512 → Fin 128 → ℝ) (k : ℕ → Fin 128 → ℝ) (g : Fin 2 → ℕ → ℝ) (r : Fin 512) :
    ℕ → EReal := masked (score lo q k (g 0) (512 * (i 1).val) r) (512 * (i 1).val + r.val)

/-- The second head's. -/
abbrev row1 (i : grid0.Coords) (q : Fin 512 → Fin 128 → ℝ) (k : ℕ → Fin 128 → ℝ) (g : Fin 2 → ℕ → ℝ) (r : Fin 512) :
    ℕ → EReal := masked (score hi q k (g 1) (512 * (i 1).val) r) (512 * (i 1).val + r.val)

/-- The values as extended reals. -/
abbrev vals (v : ℕ → Fin 128 → ℝ) (d : Fin 128) (j : ℕ) : EReal := (v j d : EReal)

theorem keyTile_eq (hb : Blocks x0 x1 x2 x3 q k v g) (n : Fin (k0_t1_loop i).trips) (j : Fin 512) (d : Fin 128) :
    keyTile i arg3 (harg3.unread x1) n (ix2 j d) = (k (512 * n.val + j.val) d : EReal) := by
  have hn := trip_lt i n
  refine (load2 harg3 x1 _ _ (ix2 ⟨512 * n.val + j.val, by omega⟩ d) ?_).trans (hb.key _ _)
  funext a
  apply Fin.ext
  fin_cases a <;> simp [off3_eq]

theorem valueTile_eq (hb : Blocks x0 x1 x2 x3 q k v g) (n : Fin (k0_t1_loop i).trips) (j : Fin 512) (d : Fin 128) :
    valueTile i arg4 (harg4.unread x2) n (ix2 j d) = (v (512 * n.val + j.val) d : EReal) := by
  have hn := trip_lt i n
  refine (load2 harg4 x2 _ _ (ix2 ⟨512 * n.val + j.val, by omega⟩ d) ?_).trans (hb.value _ _)
  funext a
  apply Fin.ext
  fin_cases a <;> simp [off3_eq]

theorem gateTile0_eq (hb : Blocks x0 x1 x2 x3 q k v g) (n : Fin (k0_t1_loop i).trips) (j : Fin 512) :
    gateTile0 i arg5 (harg5.unread x3) n (ix3 0 0 j) = (g 0 (512 * n.val + j.val) : EReal) := by
  have hn := trip_lt i n
  refine (load2 harg5 x3 _ _ (ix3 0 0 ⟨512 * n.val + j.val, by omega⟩) ?_).trans (hb.gate _ _)
  funext a
  apply Fin.ext
  fin_cases a <;> simp [off4_eq]

theorem gateTile1_eq (hb : Blocks x0 x1 x2 x3 q k v g) (n : Fin (k0_t1_loop i).trips) (j : Fin 512) :
    gateTile1 i arg5 (harg5.unread x3) n (ix3 0 0 j) = (g 1 (512 * n.val + j.val) : EReal) := by
  have hn := trip_lt i n
  refine (load2 harg5 x3 _ _ (ix3 0 1 ⟨512 * n.val + j.val, by omega⟩) ?_).trans (hb.gate _ _)
  funext a
  apply Fin.ext
  fin_cases a <;> simp [off5_eq]

/-- The pieces that the first `n` trips write, over the contents `f7`, `f8`, `f9` at entry. -/
abbrev pieces (x0 : Vec Ideal S512x128 .bf16) (x1 x2 : Vec Ideal S16384x128 .bf16) (x3 : Vec Ideal S1x2x16384 .f32)
    (f7 : BufTy.Contents (Elt Ideal) arg7.view.ty) (f8 : BufTy.Contents (Elt Ideal) arg8.view.ty)
    (f9 : BufTy.Contents (Elt Ideal) arg9.view.ty) (n : ℕ) :=
  pb_k0_t1 (F := Ideal) Variants.none c none i arg2 harg2 arg3 harg3 arg4 harg4 arg5 harg5 arg6 harg6
    arg7 harg7 arg8 harg8 arg9 harg9 arg1 lanes (k0_pay41 x0) ct ct' c0 c1 v30 (harg3.unread x1) (harg4.unread x2)
    (harg5.unread x3) f7 f8 f9 n

theorem loop (hb : Blocks x0 x1 x2 x3 q k v g) (hct : ct (ix2 0 0) = (g 0 (512 * (i 1).val) : EReal))
    (hct' : ct' (ix2 0 0) = (g 1 (512 * (i 1).val) : EReal))
    (f7 : BufTy.Contents (Elt Ideal) arg7.view.ty) (f8 : BufTy.Contents (Elt Ideal) arg8.view.ty)
    (f9 : BufTy.Contents (Elt Ideal) arg9.view.ty)
    (h0 : Holds arg7.view arg8.view arg9.view f7 f8 f9 (row0 i q k g) (row1 i q k g) (vals v) 0) :
    ∀ n, n ≤ (k0_t1_loop i).trips → Holds arg7.view arg8.view arg9.view
      (arg7.view.writes (Elt Ideal) f7 (pieces c i arg2 harg2 arg3 harg3 arg4 harg4 arg5 harg5 arg6 harg6 arg7 harg7 arg8 harg8
        arg9 harg9 arg1 ct ct' c0 c1 v30 x0 x1 x2 x3 f7 f8 f9 n).1)
      (arg8.view.writes (Elt Ideal) f8 (pieces c i arg2 harg2 arg3 harg3 arg4 harg4 arg5 harg5 arg6 harg6 arg7 harg7 arg8 harg8
        arg9 harg9 arg1 ct ct' c0 c1 v30 x0 x1 x2 x3 f7 f8 f9 n).2.1)
      (arg9.view.writes (Elt Ideal) f9 (pieces c i arg2 harg2 arg3 harg3 arg4 harg4 arg5 harg5 arg6 harg6 arg7 harg7 arg8 harg8
        arg9 harg9 arg1 ct ct' c0 c1 v30 x0 x1 x2 x3 f7 f8 f9 n).2.2)
      (row0 i q k g) (row1 i q k g) (vals v) (512 * n)
  | 0, _ => h0
  | n + 1, hn => by
    have ih := loop hb hct hct' f7 f8 f9 h0 n (by omega)
    have hi := trips_eq i
    have hs : (pieces c i arg2 harg2 arg3 harg3 arg4 harg4 arg5 harg5 arg6 harg6 arg7 harg7 arg8 harg8
        arg9 harg9 arg1 ct ct' c0 c1 v30 x0 x1 x2 x3 f7 f8 f9 (n + 1)) = _ :=
      pb_k0_t1_succ Variants.none c none i arg2 harg2 arg3 harg3 arg4 harg4 arg5 harg5 arg6 harg6
        arg7 harg7 arg8 harg8 arg9 harg9 arg1 lanes (k0_pay41 x0) ct ct' c0 c1 v30 (harg3.unread x1) (harg4.unread x2)
        (harg5.unread x3) f7 f8 f9 ⟨n, hn⟩
    rw [hs]
    simp only [View.writes_append]
    refine ih.step ?_ ?_ ?_ (trip_eq c i arg2 harg2 arg3 harg3 arg4 harg4 arg5 harg5 arg6 harg6 arg7 harg7 arg8 harg8
        arg9 harg9 arg1 (k0_pay41 x0) ct ct' c0 c1 v30 (harg3.unread x1) (harg4.unread x2) (harg5.unread x3) ⟨n, hn⟩ _ _ _)
    · intro r j
      rw [score0_real hb.query hct (keyTile_eq i arg3 harg3 hb ⟨n, hn⟩) (gateTile0_eq i arg5 harg5 hb ⟨n, hn⟩)]
      exact (if_pos (by have := j.isLt; dsimp only; omega)).symm
    · intro r j
      rw [score1_real hb.query hct' (keyTile_eq i arg3 harg3 hb ⟨n, hn⟩) (gateTile1_eq i arg5 harg5 hb ⟨n, hn⟩)]
      exact (if_pos (by have := j.isLt; dsimp only; omega)).symm
    · exact valueTile_eq i arg4 harg4 hb ⟨n, hn⟩

end Loop

end Cert.FoxIdeal.Attn
-- ==== Proof.FoxPoint.lean ====
/- The forgetting attention's block of output at a grid point: the tile on the diagonal after the loop over the tiles
   before it, and the final division. -/
module

public import proofs.«01_k».proof.Proof.FoxLoop

@[expose] public section

set_option maxRecDepth 16384

noncomputable section

open Idealize.ShloMosaic Idealize.ShloMosaic.TcCoe Idealize.SL.Sem

namespace Cert.FoxIdeal.Attn

open Cert.FoxIdeal Cert.FoxIdeal.Gen Cert.Online

section Point

variable (c : Dev nD) (i : grid0.Coords)
  (arg2 : Memref sig .tc .vmem S512x128 .bf16) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S1x2x16384 .f32) (harg5 : arg5.IsWhole)
  (arg6 : Memref sig .tc .vmem S512x128 .bf16) (harg6 : arg6.IsWhole)
  (arg7 : Memref sig .tc .vmem S2x512x128 .f32) (harg7 : arg7.IsWhole)
  (arg8 : Memref sig .tc .vmem S2x512x128 .f32) (harg8 : arg8.IsWhole)
  (arg9 : Memref sig .tc .vmem S1x512x128 .f32) (harg9 : arg9.IsWhole)
  (x0 : Vec Ideal S512x128 .bf16) (x1 x2 : Vec Ideal S16384x128 .bf16) (x3 : Vec Ideal S1x2x16384 .f32)

/-! ## The blocks the point reads beside the loop's -/

/-- The first head's gate at the tile's first row. -/
abbrev gate0 : FVec Ideal S1x1 .f32 :=
  k0_pay45 (arg5.view.readAt (Elt Ideal) (Rect.unit (s := S1x2x16384) (k0_off1 i) S1x1x128.size (k0_off1_inb i)).toLoadRect (harg5.unread x3))

/-- The second head's. -/
abbrev gate1 : FVec Ideal S1x1 .f32 :=
  k0_pay46 (arg5.view.readAt (Elt Ideal) (Rect.unit (s := S1x2x16384) (k0_off2 i) S1x1x128.size (k0_off2_inb i)).toLoadRect (harg5.unread x3))

/-- The diagonal tile's keys. -/
abbrev keyDiag : Vec Ideal S512x128 .bf16 :=
  arg3.view.readAt (Elt Ideal) (Rect.unit (s := S16384x128) (k0_off9 i) S512x128.size (k0_off9_inb i)).toLoadRect (harg3.unread x1)

/-- Its values. -/
abbrev valueDiag : Vec Ideal S512x128 .bf16 :=
  arg4.view.readAt (Elt Ideal) (Rect.unit (s := S16384x128) (k0_off9 i) S512x128.size (k0_off9_inb i)).toLoadRect (harg4.unread x2)

/-- Its gates, first head. -/
abbrev gateDiag0 : Vec Ideal S1x1x512 .f32 :=
  arg5.view.readAt (Elt Ideal) (Rect.unit (s := S1x2x16384) (k0_off10 i) S1x1x512.size (k0_off10_inb i)).toLoadRect (harg5.unread x3)

/-- Its gates, second head. -/
abbrev gateDiag1 : Vec Ideal S1x1x512 .f32 :=
  arg5.view.readAt (Elt Ideal) (Rect.unit (s := S1x2x16384) (k0_off11 i) S1x1x512.size (k0_off11_inb i)).toLoadRect (harg5.unread x3)

/-- The query block, scaled. -/
abbrev scaled : FVec Ideal S512x128 .bf16 :=
  k0_pay41 (arg2.view.readAt (Elt Ideal) (Rect.unit (s := S512x128) ![0, 0] S512x128.size inb_S512x128_S512x128_0_0).toLoadRect (harg2.unread x0))

theorem scaled_whole : scaled arg2 harg2 x0 = k0_pay41 x0 := by
  unfold scaled
  rw [View.readAt_eq_ld, Memref.IsWhole.read_unread, View.ld_unit_lit]
  decide

/-- The tile's scores, masked above the diagonal. -/
abbrev X0 := diag0 (k0_pay41 x0) (gate0 i arg5 harg5 x3) (keyDiag i arg3 harg3 x1) (gateDiag0 i arg5 harg5 x3)

/-- The second head's. -/
abbrev X1 := diag1 (k0_pay41 x0) (gate1 i arg5 harg5 x3) (keyDiag i arg3 harg3 x1) (gateDiag1 i arg5 harg5 x3)

/-! ## The scratch buffers before the diagonal tile -/

/-- The maxima at the start. -/
abbrev start7 := arg7.view.writes (Elt Ideal) arg7.view.junk kernelRun0_A.sl.HS0_1
/-- The sums at the start. -/
abbrev start8 := arg8.view.writes (Elt Ideal) arg8.view.junk kernelRun0_A.sl.HS1_1
/-- The weighted sums at the start. -/
abbrev start9 := arg9.view.writes (Elt Ideal) arg9.view.junk kernelRun0_A.sl.HS2_1

/-- The pieces the loop writes. -/
abbrev looped := pieces c i arg2 harg2 arg3 harg3 arg4 harg4 arg5 harg5 arg6 harg6 arg7 harg7 arg8 harg8 arg9 harg9
  (BitVec.ofNat 32 (i 1).val) (gate0 i arg5 harg5 x3) (gate1 i arg5 harg5 x3) 0#32 1#32 (kernelRun0_A.sl.v30 i) x0 x1 x2 x3
  (start7 arg7) (start8 arg8) (start9 arg9) (k0_t1_loop i).trips

/-- The maxima before the diagonal tile. -/
def M7 := arg7.view.writes (Elt Ideal) (start7 arg7) (looped c i arg2 harg2 arg3 harg3 arg4 harg4 arg5 harg5 arg6 harg6 arg7 harg7 arg8 harg8 arg9 harg9 x0 x1 x2 x3).1
/-- The sums. -/
def M8 := arg8.view.writes (Elt Ideal) (start8 arg8) (looped c i arg2 harg2 arg3 harg3 arg4 harg4 arg5 harg5 arg6 harg6 arg7 harg7 arg8 harg8 arg9 harg9 x0 x1 x2 x3).2.1
/-- The weighted sums. -/
def M9 := arg9.view.writes (Elt Ideal) (start9 arg9) (looped c i arg2 harg2 arg3 harg3 arg4 harg4 arg5 harg5 arg6 harg6 arg7 harg7 arg8 harg8 arg9 harg9 x0 x1 x2 x3).2.2

theorem r_eq : kernelRun0_A.sl.r (F := Ideal) c arg2 harg2 x0 = k0_pay41 x0 := scaled_whole arg2 harg2 x0

/-- The second loop makes no trips, so it writes nothing. -/
theorem none_eq (a1 : BitVec 32) (v2 : IVec S1x128 1) (v5 : FVec Ideal S512x128 .bf16) (ct ct' : FVec Ideal S1x1 .f32) (c0 c1 v30 v32 : BitVec 32)
    (X3 : BufTy.Contents (Elt Ideal) arg3.view.ty) (X4 : BufTy.Contents (Elt Ideal) arg4.view.ty)
    (X5 : BufTy.Contents (Elt Ideal) arg5.view.ty) (f7 : BufTy.Contents (Elt Ideal) arg7.view.ty)
    (f8 : BufTy.Contents (Elt Ideal) arg8.view.ty) (f9 : BufTy.Contents (Elt Ideal) arg9.view.ty) :
    pb_k0_t2 (F := Ideal) Variants.none c none i arg2 harg2 arg3 harg3 arg4 harg4 arg5 harg5 arg6 harg6 arg7 harg7 arg8 harg8
      arg9 harg9 a1 v2 v5 ct ct' c0 c1 v30 v32 X3 X4 X5 f7 f8 f9
      (Scf.trips (k0_t2_loop i).lb (k0_t2_loop i).ub (k0_t2_loop i).st) = ([], [], []) := by
  rw [show Scf.trips (k0_t2_loop i).lb (k0_t2_loop i).ub (k0_t2_loop i).st = 0 from empty_eq i]
  rfl

/-! ## What the diagonal tile reads back -/

theorem v70_eq : kernelRun0_A.sl.v70 (F := Ideal) c i arg2 harg2 arg3 harg3 arg4 harg4 arg5 harg5 arg6 harg6 arg7 harg7 arg8 harg8 arg9 harg9 x0 x1 x2 x3 = arg7.view.readAt (Elt Ideal) fst.toLoadRect (M7 c i arg2 harg2 arg3 harg3 arg4 harg4 arg5 harg5 arg6 harg6 arg7 harg7 arg8 harg8 arg9 harg9 x0 x1 x2 x3) := by
  unfold kernelRun0_A.sl.v70
  rw [none_eq, List.nil_append]
  unfold View.readCov M7
  rw [View.writes_append, r_eq]
  rfl

theorem v81_eq : kernelRun0_A.sl.v81 (F := Ideal) c i arg2 harg2 arg3 harg3 arg4 harg4 arg5 harg5 arg6 harg6 arg7 harg7 arg8 harg8 arg9 harg9 x0 x1 x2 x3 = arg8.view.readAt (Elt Ideal) fst.toLoadRect (M8 c i arg2 harg2 arg3 harg3 arg4 harg4 arg5 harg5 arg6 harg6 arg7 harg7 arg8 harg8 arg9 harg9 x0 x1 x2 x3) := by
  unfold kernelRun0_A.sl.v81
  rw [none_eq, List.nil_append]
  unfold View.readCov M8
  rw [View.writes_append, r_eq]
  rfl

theorem v127_eq : kernelRun0_A.sl.v127 (F := Ideal) c i arg2 harg2 arg3 harg3 arg4 harg4 arg5 harg5 arg6 harg6 arg7 harg7 arg8 harg8 arg9 harg9 x0 x1 x2 x3 = arg9.view.readAt (Elt Ideal) all.toLoadRect (M9 c i arg2 harg2 arg3 harg3 arg4 harg4 arg5 harg5 arg6 harg6 arg7 harg7 arg8 harg8 arg9 harg9 x0 x1 x2 x3) := by
  unfold kernelRun0_A.sl.v127
  rw [none_eq, List.nil_append]
  unfold View.readCov M9
  rw [View.writes_append, r_eq]
  rfl

theorem v101_eq : kernelRun0_A.sl.v101 (F := Ideal) c i arg2 harg2 arg3 harg3 arg4 harg4 arg5 harg5 arg6 harg6 arg7 harg7 arg8 harg8 arg9 harg9 x0 x1 x2 x3 = arg7.view.readAt (Elt Ideal) snd.toLoadRect (M7 c i arg2 harg2 arg3 harg3 arg4 harg4 arg5 harg5 arg6 harg6 arg7 harg7 arg8 harg8 arg9 harg9 x0 x1 x2 x3) := by
  unfold kernelRun0_A.sl.v101 kernelRun0_A.sl.HS0_1_1
  rw [none_eq, List.nil_append]
  unfold View.readCov M7
  refine (read_snd _ _ _ _).trans ?_
  rw [View.writes_append, r_eq]
  rfl

theorem v112_eq : kernelRun0_A.sl.v112 (F := Ideal) c i arg2 harg2 arg3 harg3 arg4 harg4 arg5 harg5 arg6 harg6 arg7 harg7 arg8 harg8 arg9 harg9 x0 x1 x2 x3 = arg8.view.readAt (Elt Ideal) snd.toLoadRect (M8 c i arg2 harg2 arg3 harg3 arg4 harg4 arg5 harg5 arg6 harg6 arg7 harg7 arg8 harg8 arg9 harg9 x0 x1 x2 x3) := by
  unfold kernelRun0_A.sl.v112 kernelRun0_A.sl.HS1_1_1
  rw [none_eq, List.nil_append]
  unfold View.readCov M8
  refine (read_snd _ _ _ _).trans ?_
  rw [View.writes_append, r_eq]
  rfl

theorem v140_eq : kernelRun0_A.sl.v140 (F := Ideal) c i arg2 harg2 arg3 harg3 arg4 harg4 arg5 harg5 arg6 harg6 arg7 harg7 arg8 harg8 arg9 harg9 x0 x1 x2 x3 = nextSum (X0 i arg3 harg3 arg5 harg5 x0 x1 x3)
    (arg7.view.readAt (Elt Ideal) fst.toLoadRect (M7 c i arg2 harg2 arg3 harg3 arg4 harg4 arg5 harg5 arg6 harg6 arg7 harg7 arg8 harg8 arg9 harg9 x0 x1 x2 x3)) (arg8.view.readAt (Elt Ideal) fst.toLoadRect (M8 c i arg2 harg2 arg3 harg3 arg4 harg4 arg5 harg5 arg6 harg6 arg7 harg7 arg8 harg8 arg9 harg9 x0 x1 x2 x3)) := by
  unfold kernelRun0_A.sl.v140 kernelRun0_A.sl.HS1_2 kernelRun0_A.sl.HS1_1_1 View.readCov
  refine (read_fst _ _ _ _).trans ((read_same _ _ _ _ _).trans ?_)
  unfold kernelRun0_A.sl.r_8 kernelRun0_A.sl.r_7 kernelRun0_A.sl.r_9
  rw [v70_eq, v81_eq, r_eq]
  rfl

theorem v142_eq : kernelRun0_A.sl.v142 (F := Ideal) c i arg2 harg2 arg3 harg3 arg4 harg4 arg5 harg5 arg6 harg6 arg7 harg7 arg8 harg8 arg9 harg9 x0 x1 x2 x3 = nextSum (X1 i arg3 harg3 arg5 harg5 x0 x1 x3)
    (arg7.view.readAt (Elt Ideal) snd.toLoadRect (M7 c i arg2 harg2 arg3 harg3 arg4 harg4 arg5 harg5 arg6 harg6 arg7 harg7 arg8 harg8 arg9 harg9 x0 x1 x2 x3)) (arg8.view.readAt (Elt Ideal) snd.toLoadRect (M8 c i arg2 harg2 arg3 harg3 arg4 harg4 arg5 harg5 arg6 harg6 arg7 harg7 arg8 harg8 arg9 harg9 x0 x1 x2 x3)) := by
  unfold kernelRun0_A.sl.v142 kernelRun0_A.sl.HS1_2 View.readCov
  refine (read_same _ _ _ _ _).trans ?_
  unfold kernelRun0_A.sl.r_13 kernelRun0_A.sl.r_14
  rw [v101_eq, v112_eq, r_eq]
  rfl

theorem v138_eq : kernelRun0_A.sl.v138 (F := Ideal) c i arg2 harg2 arg3 harg3 arg4 harg4 arg5 harg5 arg6 harg6 arg7 harg7 arg8 harg8 arg9 harg9 x0 x1 x2 x3 =
    k0_pay75 lanes (k0_pay5 lanes (valueDiag i arg4 harg4 x2))
      (rescale (X0 i arg3 harg3 arg5 harg5 x0 x1 x3) (arg7.view.readAt (Elt Ideal) fst.toLoadRect (M7 c i arg2 harg2 arg3 harg3 arg4 harg4 arg5 harg5 arg6 harg6 arg7 harg7 arg8 harg8 arg9 harg9 x0 x1 x2 x3)))
      (k0_pay67 (k0_pay4 lanes (valueDiag i arg4 harg4 x2)) (X0 i arg3 harg3 arg5 harg5 x0 x1 x3)
        (k0_pay60 (arg7.view.readAt (Elt Ideal) fst.toLoadRect (M7 c i arg2 harg2 arg3 harg3 arg4 harg4 arg5 harg5 arg6 harg6 arg7 harg7 arg8 harg8 arg9 harg9 x0 x1 x2 x3))) (rowMax (X0 i arg3 harg3 arg5 harg5 x0 x1 x3)))
      (rescale (X1 i arg3 harg3 arg5 harg5 x0 x1 x3) (arg7.view.readAt (Elt Ideal) snd.toLoadRect (M7 c i arg2 harg2 arg3 harg3 arg4 harg4 arg5 harg5 arg6 harg6 arg7 harg7 arg8 harg8 arg9 harg9 x0 x1 x2 x3)))
      (probs (X1 i arg3 harg3 arg5 harg5 x0 x1 x3) (arg7.view.readAt (Elt Ideal) snd.toLoadRect (M7 c i arg2 harg2 arg3 harg3 arg4 harg4 arg5 harg5 arg6 harg6 arg7 harg7 arg8 harg8 arg9 harg9 x0 x1 x2 x3)))
      (arg9.view.readAt (Elt Ideal) all.toLoadRect (M9 c i arg2 harg2 arg3 harg3 arg4 harg4 arg5 harg5 arg6 harg6 arg7 harg7 arg8 harg8 arg9 harg9 x0 x1 x2 x3)) := by
  unfold kernelRun0_A.sl.v138 kernelRun0_A.sl.HS2_1_1 View.readCov
  refine (read_same _ _ _ _ _).trans ?_
  unfold kernelRun0_A.sl.r_10 kernelRun0_A.sl.r_11 kernelRun0_A.sl.r_13 kernelRun0_A.sl.r_14 kernelRun0_A.sl.r_8
    kernelRun0_A.sl.r_7 kernelRun0_A.sl.r_9
  rw [v70_eq, v101_eq, v127_eq, r_eq]
  rfl

theorem out_eq : out0_A_4 (F := Ideal) c i arg2 harg2 arg3 harg3 arg4 harg4 arg5 harg5 arg6 harg6 arg7 harg7 arg8 harg8 arg9 harg9 x0 x1 x2 x3 = k0_pay1 (k0_pay76 (kernelRun0_A.sl.v138 c i arg2 harg2 arg3 harg3 arg4 harg4 arg5 harg5 arg6 harg6 arg7 harg7 arg8 harg8 arg9 harg9 x0 x1 x2 x3))
    (k0_pay77 (kernelRun0_A.sl.v140 c i arg2 harg2 arg3 harg3 arg4 harg4 arg5 harg5 arg6 harg6 arg7 harg7 arg8 harg8 arg9 harg9 x0 x1 x2 x3)) (k0_pay78 (kernelRun0_A.sl.v142 c i arg2 harg2 arg3 harg3 arg4 harg4 arg5 harg5 arg6 harg6 arg7 harg7 arg8 harg8 arg9 harg9 x0 x1 x2 x3)) (k0_pay79 lanes) := by
  unfold out0_A_4
  rw [View.read_writes_junk_eq_canon]
  unfold kernelRun0_A
  dsimp only
  rw [View.canon_cons_unit_lit]
  · rfl
  · decide

/-! ## The value -/

theorem divide_eq (a l0 l1 : Vec Ideal S1x512x128 .f32) (r : Fin 512) (d : Fin 128) :
    k0_pay1 (k0_pay76 a) (k0_pay77 l0) (k0_pay78 l1) (k0_pay79 lanes) (ix2 r d)
      = Ideal.div (a (ix3 0 r d)) (if d.val < 64 then l0 (ix3 0 r d) else l1 (ix3 0 r d)) := by
  pointwise [k0_pay1, k0_pay76, k0_pay77, k0_pay78, k0_pay79, k0_pay40]
  rw [select_lane]

variable {x0 x1 x2 x3}
variable {q : Fin 512 → Fin 128 → ℝ} {k v : ℕ → Fin 128 → ℝ} {g : Fin 2 → ℕ → ℝ}

theorem gate0_eq (hb : Blocks x0 x1 x2 x3 q k v g) : gate0 i arg5 harg5 x3 (ix2 0 0) = (g 0 (512 * (i 1).val) : EReal) := by
  have hi : (i 1).val < 32 := (i 1).isLt
  unfold gate0
  generalize hw : arg5.view.readAt (Elt Ideal) (Rect.unit (s := S1x2x16384) (k0_off1 i) S1x1x128.size (k0_off1_inb i)).toLoadRect
    (harg5.unread x3) = w
  have e : w (ix3 0 0 0) = (g 0 (512 * (i 1).val) : EReal) := by
    rw [← hw]
    refine (load2 harg5 x3 _ _ (ix3 0 0 ⟨512 * (i 1).val, by omega⟩) ?_).trans (hb.gate _ _)
    funext a
    apply Fin.ext
    fin_cases a <;> simp [off1_eq]
  pointwise [k0_pay45]
  exact e

theorem gate1_eq (hb : Blocks x0 x1 x2 x3 q k v g) : gate1 i arg5 harg5 x3 (ix2 0 0) = (g 1 (512 * (i 1).val) : EReal) := by
  have hi : (i 1).val < 32 := (i 1).isLt
  unfold gate1
  generalize hw : arg5.view.readAt (Elt Ideal) (Rect.unit (s := S1x2x16384) (k0_off2 i) S1x1x128.size (k0_off2_inb i)).toLoadRect
    (harg5.unread x3) = w
  have e : w (ix3 0 0 0) = (g 1 (512 * (i 1).val) : EReal) := by
    rw [← hw]
    refine (load2 harg5 x3 _ _ (ix3 0 1 ⟨512 * (i 1).val, by omega⟩) ?_).trans (hb.gate _ _)
    funext a
    apply Fin.ext
    fin_cases a <;> simp [off2_eq]
  pointwise [k0_pay46]
  exact e

theorem keyDiag_eq (hb : Blocks x0 x1 x2 x3 q k v g) (j : Fin 512) (d : Fin 128) :
    keyDiag i arg3 harg3 x1 (ix2 j d) = (k (512 * (i 1).val + j.val) d : EReal) := by
  have hi : (i 1).val < 32 := (i 1).isLt
  refine (load2 harg3 x1 _ _ (ix2 ⟨512 * (i 1).val + j.val, by omega⟩ d) ?_).trans (hb.key _ _)
  funext a
  apply Fin.ext
  fin_cases a <;> simp [off9_eq]

theorem valueDiag_eq (hb : Blocks x0 x1 x2 x3 q k v g) (j : Fin 512) (d : Fin 128) :
    valueDiag i arg4 harg4 x2 (ix2 j d) = (v (512 * (i 1).val + j.val) d : EReal) := by
  have hi : (i 1).val < 32 := (i 1).isLt
  refine (load2 harg4 x2 _ _ (ix2 ⟨512 * (i 1).val + j.val, by omega⟩ d) ?_).trans (hb.value _ _)
  funext a
  apply Fin.ext
  fin_cases a <;> simp [off9_eq]

theorem gateDiag0_eq (hb : Blocks x0 x1 x2 x3 q k v g) (j : Fin 512) :
    gateDiag0 i arg5 harg5 x3 (ix3 0 0 j) = (g 0 (512 * (i 1).val + j.val) : EReal) := by
  have hi : (i 1).val < 32 := (i 1).isLt
  refine (load2 harg5 x3 _ _ (ix3 0 0 ⟨512 * (i 1).val + j.val, by omega⟩) ?_).trans (hb.gate _ _)
  funext a
  apply Fin.ext
  fin_cases a <;> simp [off10_eq]

theorem gateDiag1_eq (hb : Blocks x0 x1 x2 x3 q k v g) (j : Fin 512) :
    gateDiag1 i arg5 harg5 x3 (ix3 0 0 j) = (g 1 (512 * (i 1).val + j.val) : EReal) := by
  have hi : (i 1).val < 32 := (i 1).isLt
  refine (load2 harg5 x3 _ _ (ix3 0 1 ⟨512 * (i 1).val + j.val, by omega⟩) ?_).trans (hb.gate _ _)
  funext a
  apply Fin.ext
  fin_cases a <;> simp [off11_eq]

theorem tile0 (hb : Blocks x0 x1 x2 x3 q k v g) :
    IsTile (X0 i arg3 harg3 arg5 harg5 x0 x1 x3) (row0 i q k g) (512 * (i 1).val) := by
  intro r j
  refine (diag0_eq _ _ _ _ r j).trans ?_
  rw [score0_real hb.query (gate0_eq i arg5 harg5 hb) (keyDiag_eq i arg3 harg3 hb) (gateDiag0_eq i arg5 harg5 hb)]
  exact if_congr (by omega) rfl rfl

theorem tile1 (hb : Blocks x0 x1 x2 x3 q k v g) :
    IsTile (X1 i arg3 harg3 arg5 harg5 x0 x1 x3) (row1 i q k g) (512 * (i 1).val) := by
  intro r j
  refine (diag1_eq _ _ _ _ r j).trans ?_
  rw [score1_real hb.query (gate1_eq i arg5 harg5 hb) (keyDiag_eq i arg3 harg3 hb) (gateDiag1_eq i arg5 harg5 hb)]
  exact if_congr (by omega) rfl rfl

/-- A part of a buffer that was filled holds the filling. -/
theorem read_filled (w : View sig .tc .vmem S2x512x128 .f32) (f : w.ty.Contents (Elt Ideal)) (r : Rect S2x512x128)
    (p : Vec Ideal S2x512x128 .f32) (y : r.shape.Idx) :
    w.readAt (Elt Ideal) r.toLoadRect (w.writes (Elt Ideal) f
      [⟨Rect.unit ![0, 0, 0] S2x512x128.size inb_S2x512x128_S2x512x128_0_0_0, p⟩]) y = p (r.idx y) := by
  refine View.read_writes_cons_unit_of_mem w f _ p [] (r.idx y) (r.idx y) rfl fun a => ?_
  fin_cases a <;> simp

theorem started : Holds arg7.view arg8.view arg9.view (start7 arg7) (start8 arg8) (start9 arg9)
    (row0 i q k g) (row1 i q k g) (vals v) 0 := by
  refine ⟨fun r l => ?_, fun r l => ?_, fun r l => ?_, fun r l => ?_, fun r d => ?_⟩
  · rw [top_zero]; exact (read_filled _ _ _ _ _).trans named_mask
  · rw [top_zero]; exact (read_filled _ _ _ _ _).trans named_mask
  · rw [den_zero]; exact (read_filled _ _ _ _ _).trans (Ideal.ofBits_zero_f32)
  · rw [den_zero]; exact (read_filled _ _ _ _ _).trans (Ideal.ofBits_zero_f32)
  · rw [num_zero, num_zero, ite_self]
    exact (congrFun (read_same _ _ _ _ _) _).trans (Ideal.ofBits_zero_f32)

theorem held (hb : Blocks x0 x1 x2 x3 q k v g) :
    Holds arg7.view arg8.view arg9.view (M7 c i arg2 harg2 arg3 harg3 arg4 harg4 arg5 harg5 arg6 harg6 arg7 harg7 arg8 harg8 arg9 harg9 x0 x1 x2 x3) (M8 c i arg2 harg2 arg3 harg3 arg4 harg4 arg5 harg5 arg6 harg6 arg7 harg7 arg8 harg8 arg9 harg9 x0 x1 x2 x3) (M9 c i arg2 harg2 arg3 harg3 arg4 harg4 arg5 harg5 arg6 harg6 arg7 harg7 arg8 harg8 arg9 harg9 x0 x1 x2 x3) (row0 i q k g) (row1 i q k g) (vals v)
      (512 * (i 1).val) := by
  have h := loop c i arg2 harg2 arg3 harg3 arg4 harg4 arg5 harg5 arg6 harg6 arg7 harg7 arg8 harg8 arg9 harg9
    (BitVec.ofNat 32 (i 1).val) (gate0 i arg5 harg5 x3) (gate1 i arg5 harg5 x3) 0#32 1#32 (kernelRun0_A.sl.v30 i) hb
    (gate0_eq i arg5 harg5 hb) (gate1_eq i arg5 harg5 hb) (start7 arg7) (start8 arg8) (start9 arg9)
    (started i arg7 arg8 arg9) (k0_t1_loop i).trips le_rfl
  unfold M7 M8 M9
  have e : 512 * (k0_t1_loop i).trips = 512 * (i 1).val := by rw [trips_eq i]
  rw [e] at h
  exact h

/-- The columns of the head that column `d` belongs to. -/
def cols (d : Fin 128) : Fin 64 → Fin 128 := if d.val < 64 then lo else hi

/-- The head that column `d` belongs to. -/
def head (d : Fin 128) : Fin 2 := if d.val < 64 then 0 else 1

theorem out_real (hb : Blocks x0 x1 x2 x3 q k v g) (r : Fin 512) (d : Fin 128) :
    out0_A_4 (F := Ideal) c i arg2 harg2 arg3 harg3 arg4 harg4 arg5 harg5 arg6 harg6 arg7 harg7 arg8 harg8 arg9 harg9 x0 x1 x2 x3 (ix2 r d)
      = ((∑ j ∈ Finset.range 16384, soft (score (cols d) q k (g (head d)) (512 * (i 1).val) r)
          (512 * (i 1).val + r.val) j * v j d : ℝ) : EReal) := by
  have hi : (i 1).val < 32 := (i 1).isLt
  have hM := held c i arg2 harg2 arg3 harg3 arg4 harg4 arg5 harg5 arg6 harg6 arg7 harg7 arg8 harg8 arg9 harg9 hb
  rw [out_eq, divide_eq, v140_eq, v142_eq, v138_eq]
  rw [nextAcc_fox (v := vals v) (tile0 i arg3 harg3 arg5 harg5 hb) hM.max0 (tile1 i arg3 harg3 arg5 harg5 hb) hM.max1
    (fun j d => by rw [value0_eq, valueDiag_eq i arg4 harg4 hb]) (fun j d => by rw [value1_eq, valueDiag_eq i arg4 harg4 hb]) hM.acc,
    nextSum_eq (tile0 i arg3 harg3 arg5 harg5 hb) hM.max0 hM.sum0 r d,
    nextSum_eq (tile1 i arg3 harg3 arg5 harg5 hb) hM.max1 hM.sum1 r d]
  by_cases hd : d.val < 64
  · rw [if_pos hd, if_pos hd, cols, head, if_pos hd, if_pos hd]
    exact ratio_masked _ _ (by omega) (by omega)
  · rw [if_neg hd, if_neg hd, cols, head, if_neg hd, if_neg hd]
    exact ratio_masked _ _ (by omega) (by omega)

end Point

end Cert.FoxIdeal.Attn
-- ==== Proof.FoxRef.lean ====
/- The forgetting attention's reference at the extended reals: its result as the softmax average of the values over the
   real numbers, every argument being a real number. -/
module

public import proofs.«01_k».proof.Proof.Gen.FoxRefIdeal.Run
public import proofs.«01_k».proof.Proof.Softmax
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.FoxRefIdeal.Stages

open Cert.FoxRefIdeal Cert.FoxRefIdeal.Gen Cert.Online

/-! ## The stages -/

/-- The attention's columns of the packed projections. -/
def packed (A : FVec Ideal S16384x3072 .bf16) : FVec Ideal S16384x1536 .f32 :=
  extf .f32 (extractStridedSlice S16384x1536 ![0, 0] A slices_S16384x3072_S16384x1536_0_0) bitsLt_bf16_f32

/-- One array per head. -/
def heads (X : FVec Ideal S16384x512 .f32) : FVec Ideal S8x16384x64 .f32 :=
  transpose S8x16384x64 [1, 0, 2] (shapeCast _ X shapeCasts_S16384x512_S16384x8x64) transposes_S16384x8x64_S8x16384x64_1_0_2

def queries (A : FVec Ideal S16384x3072 .bf16) : FVec Ideal S8x16384x64 .f32 :=
  heads (extractStridedSlice S16384x512 ![0, 0] (packed A) slices_S16384x1536_S16384x512_0_0)
def keys (A : FVec Ideal S16384x3072 .bf16) : FVec Ideal S8x16384x64 .f32 :=
  heads (extractStridedSlice S16384x512 ![0, 512] (packed A) slices_S16384x1536_S16384x512_0_512)
def values (A : FVec Ideal S16384x3072 .bf16) : FVec Ideal S8x16384x64 .f32 :=
  heads (extractStridedSlice S16384x512 ![0, 1024] (packed A) slices_S16384x1536_S16384x512_0_1024)

/-- The scores, before the mask. -/
def scores (q k : FVec Ideal S8x16384x64 .f32) (C : FVec Ideal S8x16384 .f32) : FVec Ideal S8x16384x16384 .f32 :=
  addf (mulf (Host.dotGeneral dot_S8x16384x64_S8x16384x64_S8x16384x16384_2_2_1_1_0_0 none q k)
      (broadcastInDim S8x16384x16384 ![] bcast_S_S8x16384x16384 (constant S_ .f32 0x3E000000#32)))
    (subf (broadcastInDim S8x16384x16384 ![0, 1, 2] bcast_S8x16384x1_S8x16384x16384_0_1_2
        (broadcastInDim S8x16384x1 ![0, 1] bcast_S8x16384_S8x16384x1_0_1 C))
      (broadcastInDim S8x16384x16384 ![0, 1, 2] bcast_S8x1x16384_S8x16384x16384_0_1_2
        (broadcastInDim S8x1x16384 ![0, 2] bcast_S8x16384_S8x1x16384_0_2 C)))

/-- The causal mask. -/
def causal (X : FVec Ideal S8x16384x16384 .f32) : FVec Ideal S8x16384x16384 .f32 :=
  select (broadcastInDim S8x16384x16384 ![1, 2] bcast_S16384x16384_S8x16384x16384_1_2
      (cmpi .sle (broadcastInDim S16384x16384 ![0, 1] bcast_S1x16384_S16384x16384_0_1
          (broadcastInDim S1x16384 ![1] bcast_S16384_S1x16384_1 (iotaInDim S16384 32 0)))
        (broadcastInDim S16384x16384 ![0, 1] bcast_S16384x1_S16384x16384_0_1
          (broadcastInDim S16384x1 ![0] bcast_S16384_S16384x1_0 (iotaInDim S16384 32 0)))))
    X (broadcastInDim S8x16384x16384 ![] bcast_S_S8x16384x16384 (id (constant S_ .f32 0xFF800000#32)))

/-- The largest score of each row. -/
def peaks (X : FVec Ideal S8x16384x16384 .f32) : FVec Ideal S8x16384 .f32 :=
  maximumf (broadcastInDim S8x16384 ![] bcast_S_S8x16384 (constant S_ .f32 0xFF800000#32))
    (Host.reduce FloatOps.maximumf X (constant S_ .f32 0xFF800000#32) reducesTo_S8x16384x16384_S8x16384_d2 h_S_)

/-- One number per row, along the row. -/
def along (m : FVec Ideal S8x16384 .f32) : FVec Ideal S8x16384x16384 .f32 :=
  broadcastInDim S8x16384x16384 ![0, 1, 2] bcast_S8x16384x1_S8x16384x16384_0_1_2
    (broadcastInDim S8x16384x1 ![0, 1] bcast_S8x16384_S8x16384x1_0_1 m)

/-- The exponentials of a row's scores under its largest. -/
def powers (X : FVec Ideal S8x16384x16384 .f32) : FVec Ideal S8x16384x16384 .f32 := Host.exp (subf X (along (peaks X)))

/-- The softmax of each row. -/
def weights (X : FVec Ideal S8x16384x16384 .f32) : FVec Ideal S8x16384x16384 .f32 :=
  Host.divf (powers X) (along (Host.reduceAdd (powers X) (constant S_ .f32 0x00000000#32) reducesTo_S8x16384x16384_S8x16384_d2 h_S_))

/-- The weighted values, and the heads side by side. -/
def mix (w : FVec Ideal S8x16384x16384 .f32) (v : FVec Ideal S8x16384x64 .f32) : FVec Ideal S16384x512 .bf16 :=
  truncf .bf16 (shapeCast _ (transpose S16384x8x64 [1, 0, 2]
    (Host.dotGeneral dot_S8x16384x16384_S8x16384x64_S8x16384x64_2_1_1_2_0_0 none w v)
    transposes_S8x16384x64_S16384x8x64_1_0_2) shapeCasts_S16384x8x64_S16384x512) bitsLt_bf16_f32

/-- The whole of it. -/
def attend (A : FVec Ideal S16384x3072 .bf16) (C : FVec Ideal S8x16384 .f32) : FVec Ideal S16384x512 .bf16 :=
  mix (weights (causal (scores (queries A) (keys A) C))) (values A)

/-! ## Each at an index -/

theorem minus_infinity : Ideal.ofBits FTy.f32 0xFF800000#32 = ⊥ := by simp [Ideal.ofBits, Ideal.ieee]

theorem eighth : Ideal.ofBits FTy.f32 0x3E000000#32 = ((1 / 8 : ℝ) : EReal) := by
  simp [Ideal.ofBits, Ideal.ieee]
  rw [← EReal.coe_mul]
  norm_num

theorem queries_eq (A : FVec Ideal S16384x3072 .bf16) (h : Fin 8) (t : Fin 16384) (d : Fin 64) :
    queries A (ix3 h t d) = A (ix2 t ⟨h.val * 64 + d.val, by omega⟩) := by
  pointwise [queries, heads, packed]

theorem keys_eq (A : FVec Ideal S16384x3072 .bf16) (h : Fin 8) (t : Fin 16384) (d : Fin 64) :
    keys A (ix3 h t d) = A (ix2 t ⟨512 + (h.val * 64 + d.val), by omega⟩) := by
  pointwise [keys, heads, packed]

theorem values_eq (A : FVec Ideal S16384x3072 .bf16) (h : Fin 8) (t : Fin 16384) (d : Fin 64) :
    values A (ix3 h t d) = A (ix2 t ⟨1024 + (h.val * 64 + d.val), by omega⟩) := by
  pointwise [values, heads, packed]

theorem scores_eq (q k : FVec Ideal S8x16384x64 .f32) (C : FVec Ideal S8x16384 .f32) (h : Fin 8) (t j : Fin 16384) :
    scores q k C (ix3 h t j) = (∑ x : Fin 64, q (ix3 h t x) * k (ix3 h j x)) * ((1 / 8 : ℝ) : EReal)
      + (C (ix2 h t) - C (ix2 h j)) := by
  pointwise [scores]
  rw [eighth]

theorem causal_eq (X : FVec Ideal S8x16384x16384 .f32) (h : Fin 8) (t j : Fin 16384) :
    causal X (ix3 h t j) = if j.val ≤ t.val then X (ix3 h t j) else ⊥ := by
  pointwise [causal]
  rw [WordCmp.cmpi_sle_ofNat (w := 32) (a := j.val) (b := t.val) (by omega) (by omega)]
  have e : (id (constant (F := Ideal) S_ .f32 0xFF800000#32)) ix0 = (⊥ : EReal) := minus_infinity
  by_cases hd : j.val ≤ t.val <;> simp [hd, Scalar.select]
  exact minus_infinity

/-- The maximum over the last axis, at any sizes. -/
theorem last_max {a b n : ℕ} (X : FVec Ideal ⟨3, ![a, b, n]⟩ .f32) (c : FVec Ideal S_ .f32)
    (hr : (⟨3, ![a, b, n]⟩ : Shape).ReducesTo [2] ⟨2, ![a, b]⟩) (hu : 0 < S_.numel) (i : Fin a) (t : Fin b) :
    Host.reduce FloatOps.maximumf X c hr hu (ix2 i t)
      = Finset.univ.fold max (c (Shape.Idx.first hu) : EReal) fun j : Fin n => (X (ix3 i t j) : EReal) := by
  pointwise

theorem max_infinity (Y : FVec Ideal S8x16384 .f32) (h : Fin 8) (t : Fin 16384) :
    maximumf (broadcastInDim S8x16384 ![] bcast_S_S8x16384 (constant S_ .f32 0xFF800000#32)) Y (ix2 h t)
      = max (⊥ : EReal) (Y (ix2 h t)) := by
  pointwise
  rw [minus_infinity]

theorem fold_sup (n : ℕ) (f : Fin n → EReal) : max ⊥ (Finset.univ.fold max (⊥ : EReal) f) = Finset.univ.sup f := bot_sup_eq _

theorem peaks_eq (X : FVec Ideal S8x16384x16384 .f32) (h : Fin 8) (t : Fin 16384) :
    peaks X (ix2 h t) = Finset.univ.sup fun j : Fin 16384 => (X (ix3 h t j) : EReal) := by
  have e := last_max X (constant S_ .f32 0xFF800000#32) reducesTo_S8x16384x16384_S8x16384_d2 h_S_ h t
  rw [show (constant (F := Ideal) S_ .f32 0xFF800000#32 (Shape.Idx.first h_S_) : EReal) = ⊥ from minus_infinity] at e
  unfold peaks
  rw [max_infinity, e, fold_sup]

theorem weights_eq (X : FVec Ideal S8x16384x16384 .f32) (h : Fin 8) (t j : Fin 16384) :
    weights X (ix3 h t j) = Ideal.div (Ideal.exp (X (ix3 h t j) - peaks X (ix2 h t)))
      (∑ i : Fin 16384, Ideal.exp (X (ix3 h t i) - peaks X (ix2 h t))) := by
  unfold weights powers
  generalize peaks X = P
  pointwise [along]

theorem mix_eq (w : FVec Ideal S8x16384x16384 .f32) (v : FVec Ideal S8x16384x64 .f32) (t : Fin 16384) (d : Fin 512) :
    mix w v (ix2 t d) = ∑ j : Fin 16384, w (ix3 ⟨d.val / 64, by omega⟩ t j) * v (ix3 ⟨d.val / 64, by omega⟩ j ⟨d.val % 64, by omega⟩) := by
  pointwise [mix]

/-- The reference's result is its stages one after the other. -/
theorem res_attend (m : (ℓ : Loc nD τ sig) → Buf (Elt Ideal) ℓ) (c : Dev nD) :
    Value.res_out0 m c = attend (m ((c.tc : Thread nD τ).loc main_arg0)) (m ((c.tc : Thread nD τ).loc main_arg1)) := rfl

/-! ## Over the real numbers -/

theorem sum_range {M : Type} [AddCommMonoid M] (n : ℕ) (f : ℕ → M) : ∑ j : Fin n, f j.val = ∑ j ∈ Finset.range n, f j :=
  Fin.sum_univ_eq_sum_range f n

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum whose terms are real numbers. -/
theorem sum_real {n : ℕ} (f : Fin n → EReal) (r : ℕ → ℝ) (h : ∀ j, f j = (r j.val : EReal)) :
    ∑ j : Fin n, f j = ((∑ j ∈ Finset.range n, r j : ℝ) : EReal) := by
  rw [← sum_coe, ← sum_range]
  exact Finset.sum_congr rfl fun j _ => h j

theorem sup_range (n : ℕ) (s : ℕ → EReal) : (Finset.univ.sup fun j : Fin n => s j.val) = top s n := by
  have h := top_add s 0 n
  simp only [Nat.zero_add, top_zero, bot_le, sup_of_le_right] at h
  exact h.symm

/-- A row whose scores are the masked real numbers `x` has their softmax for weights. -/
theorem weights_real (X : FVec Ideal S8x16384x16384 .f32) (h : Fin 8) (t : Fin 16384) (x : ℕ → ℝ)
    (hX : ∀ j : Fin 16384, X (ix3 h t j) = masked x t.val j.val) (j : Fin 16384) :
    weights X (ix3 h t j) = (soft x t.val j.val : EReal) := by
  have hp : peaks X (ix2 h t) = top (masked x t.val) 16384 := by
    rw [peaks_eq, ← sup_range]
    exact Finset.sup_congr rfl fun i _ => hX i
  rw [weights_eq, hp, hX j]
  have hs : (∑ i : Fin 16384, Ideal.exp (X (ix3 h t i) - top (masked x t.val) 16384) : EReal)
      = den (masked x t.val) 16384 (top (masked x t.val) 16384) := by
    unfold den
    rw [← sum_range]
    exact Finset.sum_congr rfl fun i _ => by rw [hX i]
  rw [hs]
  exact weight_masked x t.isLt j.val

/-- The score of query `t` and key `j` of the head whose columns start at `o`: `a` is the packed projections, `g` the head's
    cumulative gate. -/
def score (a : ℕ → ℕ → ℝ) (g : ℕ → ℝ) (o t j : ℕ) : ℝ :=
  (∑ x : Fin 64, a t (o + x.val) * a j (512 + (o + x.val))) * (1 / 8) + (g t - g j)

/-- The reference's output: each head's softmax average of its values. -/
theorem attend_real (A : FVec Ideal S16384x3072 .bf16) (C : FVec Ideal S8x16384 .f32) (a g : ℕ → ℕ → ℝ)
    (hA : ∀ (t : Fin 16384) (d : Fin 3072), A (ix2 t d) = (a t.val d.val : EReal))
    (hC : ∀ (h : Fin 8) (t : Fin 16384), C (ix2 h t) = (g h.val t.val : EReal)) (t : Fin 16384) (d : Fin 512) :
    attend A C (ix2 t d) = ((∑ j ∈ Finset.range 16384,
      soft (score a (g (d.val / 64)) (d.val / 64 * 64) t.val) t.val j * a j (1024 + d.val) : ℝ) : EReal) := by
  unfold attend
  refine (mix_eq _ _ t d).trans (sum_real _ (fun j => soft (score a (g (d.val / 64)) (d.val / 64 * 64) t.val) t.val j
    * a j (1024 + d.val)) fun j => ?_)
  rw [EReal.coe_mul]
  refine congrArg₂ (· * ·) ?_ ?_
  · refine weights_real _ _ t _ (fun i => ?_) j
    refine (causal_eq _ _ t i).trans ?_
    unfold masked
    refine if_congr Iff.rfl ((scores_eq _ _ _ _ t i).trans ?_) rfl
    rw [hC, hC]
    unfold score
    rw [EReal.coe_add, EReal.coe_sub, EReal.coe_mul, ← coe_sum]
    refine congrArg₂ (· + ·) (congrArg₂ (· * ·) (Finset.sum_congr rfl fun x _ => ?_) rfl) rfl
    rw [queries_eq, keys_eq, hA, hA, EReal.coe_mul]
  · rw [values_eq, hA]
    dsimp only
    rw [show 1024 + (d.val / 64 * 64 + d.val % 64) = 1024 + d.val by omega]

end Cert.FoxRefIdeal.Stages

end
-- ==== Proof.FoxValue.lean ====
/- The forgetting attention's kernel at the extended reals: what it leaves in its result array is the reference's value. -/
module

public import proofs.«01_k».proof.Proof.Gen.FoxIdeal.Value
public import proofs.«01_k».proof.Proof.FoxPoint
public import proofs.«01_k».proof.Proof.FoxRef

@[expose] public section

set_option maxRecDepth 16384

noncomputable section

open Idealize.ShloMosaic Idealize.ShloMosaic.TcCoe Idealize.SL.Sem
open Idealize.ShloMosaic.Pipeline (Dat)

namespace Cert.FoxIdeal.Attn

open Cert.FoxIdeal Cert.FoxIdeal.Gen Cert.Online

variable (m : (ℓ : Loc nD τ sig) → Buf (Elt Ideal) ℓ)

/-- Which block of its array each window stages at a grid point, and the point's query tile. -/
theorem idx_val : ∀ t : Fin cfg0.N, win0_0.index t = ![t.val % 32, t.val / 32] ∧ win0_1.index t = ![0, 4 + t.val / 32]
    ∧ win0_2.index t = ![0, 8 + t.val / 32] ∧ win0_3.index t = ![t.val / 32, 0, 0]
    ∧ win0_4.index t = ![t.val % 32, t.val / 32] ∧ (grid0.coords t 1).val = t.val % 32 :=
  (by decide +kernel : ∀ t : Fin grid0.N, _)

theorem lt_points (t : Fin cfg0.N) : t.val < 128 := t.isLt

section Block

variable (c : Dev nD) (a g : ℕ → ℕ → ℝ)
  (hA : ∀ (r : Fin 16384) (d : Fin 3072), (m ((c : Thread nD τ).loc main_arg0) : FVec Ideal S16384x3072 .bf16) (ix2 r d) = (a r.val d.val : EReal))
  (hC : ∀ (h : Fin 8) (r : Fin 16384), (m ((c : Thread nD τ).loc main_arg1) : FVec Ideal S8x16384 .f32) (ix2 h r) = (g h.val r.val : EReal))

include hA hC in
/-- The blocks of a grid point hold the real numbers of the arguments. -/
theorem blocks (t : Fin cfg0.N) : Blocks (iblk m c 0 t) (iblk m c 1 t) (iblk m c 2 t) (iblk m c 3 t)
    (fun r d => a (512 * (t.val % 32) + r.val) (128 * (t.val / 32) + d.val))
    (fun j d => a j (512 + (128 * (t.val / 32) + d.val))) (fun j d => a j (1024 + (128 * (t.val / 32) + d.val)))
    (fun h j => g (2 * (t.val / 32) + h.val) j) where
  query r d := by
    have ht := lt_points t
    refine Eq.trans ?_ (hA ⟨512 * (t.val % 32) + r.val, by omega⟩ ⟨128 * (t.val / 32) + d.val, by omega⟩)
    blk_point [iblk, V, idx_val t]
  key j d := by
    have ht := lt_points t
    refine Eq.trans ?_ (hA j ⟨512 + (128 * (t.val / 32) + d.val), by omega⟩)
    blk_point [iblk, V, idx_val t]
  value j d := by
    have ht := lt_points t
    refine Eq.trans ?_ (hA j ⟨1024 + (128 * (t.val / 32) + d.val), by omega⟩)
    blk_point [iblk, V, idx_val t]
  gate h j := by
    have ht := lt_points t
    refine Eq.trans ?_ (hC ⟨2 * (t.val / 32) + h.val, by omega⟩ j)
    blk_point [iblk, V, idx_val t]

/-- A column of a head, counted from the head's first column. -/
theorem cols_val (d : Fin 128) (x : Fin 64) : (cols d x).val = d.val / 64 * 64 + x.val := by
  have hd := d.isLt
  unfold cols
  by_cases h : d.val < 64
  · rw [if_pos h, show d.val / 64 = 0 by omega]; simp [lo]
  · rw [if_neg h, show d.val / 64 = 1 by omega]

theorem head_val (d : Fin 128) : (head d).val = d.val / 64 := by
  have hd := d.isLt
  unfold head
  by_cases h : d.val < 64
  · rw [if_pos h, show d.val / 64 = 0 by omega]; rfl
  · rw [if_neg h, show d.val / 64 = 1 by omega]; rfl

include hA hC in
/-- What a grid point leaves in its block is the reference's value at the block's rows and columns. -/
theorem point (t : Fin cfg0.N) (y : S512x128.Idx) (j : S16384x512.Idx) (h0 : (j 0 : ℕ) = t.val % 32 * 512 + y 0)
    (h1 : (j 1 : ℕ) = t.val / 32 * 128 + y 1) :
    outsAt0 m c t y = Cert.FoxRefIdeal.Stages.attend (m ((c : Thread nD τ).loc main_arg0)) (m ((c : Thread nD τ).loc main_arg1)) j := by
  obtain ⟨r, d, rfl⟩ : ∃ (r : Fin 512) (d : Fin 128), y = ix2 r d := ⟨y 0, y 1, by funext x; fin_cases x <;> rfl⟩
  obtain ⟨T, D, rfl⟩ : ∃ (T : Fin 16384) (D : Fin 512), j = ix2 T D := ⟨j 0, j 1, by funext x; fin_cases x <;> rfl⟩
  replace h0 : T.val = 512 * (t.val % 32) + r.val := h0.trans (congrArg (· + _) (Nat.mul_comm _ _))
  replace h1 : D.val = 128 * (t.val / 32) + d.val := h1.trans (congrArg (· + _) (Nat.mul_comm _ _))
  have ht := lt_points t
  have hd := d.isLt
  rw [Cert.FoxRefIdeal.Stages.attend_real _ _ a g hA hC T D]
  unfold outsAt0
  rw [out_real c (grid0.coords t) _ _ _ _ _ _ _ _ _ _ _ _ _ _ _ _ (blocks m c a g hA hC t) r d, (idx_val t).2.2.2.2.2, ← h0]
  refine congrArg Real.toEReal (Finset.sum_congr rfl fun j _ => ?_)
  refine congrArg₂ (· * ·) ?_ (congrArg (a j) (by omega))
  refine soft_shift _ _ (g (D.val / 64) (512 * (t.val % 32)) - g (D.val / 64) T.val) T.val (fun i _ => ?_) j
  have e1 : 2 * (t.val / 32) + (head d).val = D.val / 64 := by rw [head_val]; omega
  have e2 : ∀ x : Fin 64, 128 * (t.val / 32) + (cols d x).val = D.val / 64 * 64 + x.val := fun x => by rw [cols_val]; omega
  unfold score Cert.FoxRefIdeal.Stages.score
  simp only [e1, e2, ← h0]
  rw [Finset.sum_mul]
  have e3 : (∑ x : Fin 64, a T.val (D.val / 64 * 64 + x.val) * (1 / 8) * a i (512 + (D.val / 64 * 64 + x.val)))
      = ∑ x : Fin 64, a T.val (D.val / 64 * 64 + x.val) * a i (512 + (D.val / 64 * 64 + x.val)) * (1 / 8) :=
    Finset.sum_congr rfl fun x _ => by ring
  rw [e3]
  ring

include hA hC in
/-- What the kernel leaves in its result array is the reference's value of the launch's arguments. -/
theorem final : (dats m 0 c).arrAt 4 (cfgs 0).N
    = Cert.FoxRefIdeal.Stages.attend (m ((c : Thread nD τ).loc main_arg0)) (m ((c : Thread nD τ).loc main_arg1)) := by
  refine (dats m 0 c).arrAt_eq_of_covers 4 _ (by decide +kernel) fun t _ y => ?_
  blk_simp
  rw [after0_4]
  exact point m c a g hA hC t y _ (by blk_simp [idx_val t]) (by blk_simp [idx_val t])

end Block

end Cert.FoxIdeal.Attn

end
-- ==== Proof.Finite.lean ====
/- The two preconditions: which elements of the arguments they say are real numbers. -/
module

public import proofs.«01_k».proof.Defs
public import Idealize.ShloMosaic.Lib.ReduceAll
public import Idealize.ShloMosaic.Lib.Pipeline.ValueKit

@[expose] public section

set_option maxRecDepth 16384

noncomputable section

open Idealize.ShloMosaic

namespace Cert.Finite

/-- The side conditions of the first precondition. -/
theorem facts : Cert.Pre_finite.Facts where
  bitsLt_bf16_f32 := by decide
  bcast_S_S16384x3072 := by decide
  reducesTo_S16384x3072_S_d0_1 := by decide
  h_S_ := by decide
  bcast_S_S8x16384 := by decide
  reducesTo_S8x16384_S_d0_1 := by decide

/-- An extended real strictly between the two infinities is a real number. -/
theorem real_of_between {x : EReal}
    (h : IntOp.andi (FloatOps.cmpf (F := Ideal) (φ := .f32) .ogt x (FloatOps.ofBits (F := Ideal) .f32 0xFF800000#32))
      (FloatOps.cmpf (F := Ideal) (φ := .f32) .olt x (FloatOps.ofBits (F := Ideal) .f32 0x7F800000#32)) = 1#1) :
    x = ((x.toReal : ℝ) : EReal) := by
  obtain ⟨h1, h2⟩ := IntOp.andi_eq_one.1 h
  have e1 : (FloatOps.ofBits (F := Ideal) .f32 0xFF800000#32 : EReal) = ⊥ := by
    show Ideal.ofBits FTy.f32 0xFF800000#32 = ⊥
    simp [Ideal.ofBits, Ideal.ieee]
  have e2 : (FloatOps.ofBits (F := Ideal) .f32 0x7F800000#32 : EReal) = ⊤ := by
    show Ideal.ofBits FTy.f32 0x7F800000#32 = ⊤
    simp [Ideal.ofBits, Ideal.ieee]
  rw [e1] at h1
  rw [e2] at h2
  induction x with
  | bot => simp [FloatOps.cmpf, Ideal.cmp] at h1
  | top => simp [FloatOps.cmpf, Ideal.cmp] at h2
  | coe r => rfl

instance : Subsingleton (Cert.Pre_finite.S_).Idx := ⟨fun a b => funext fun d => d.elim0⟩

/-- Under the first precondition both arguments hold real numbers. -/
theorem finite_real (A : FVec Ideal Cert.Pre_finite.S16384x3072 .bf16) (C : FVec Ideal Cert.Pre_finite.S8x16384 .f32)
    (h : @Cert.Pre_finite.fn facts Ideal _ A C = fun _ => 1#1) :
    (∀ i, (A i : EReal) = (((A i : EReal).toReal : ℝ) : EReal)) ∧ (∀ i, (C i : EReal) = (((C i : EReal).toReal : ℝ) : EReal)) := by
  obtain ⟨h1, h2⟩ := IntOp.andi_eq_one.1 (congrFun h ix0)
  exact ⟨fun i => real_of_between (Host.reduce_andi_all _ _ _ _ _ h1 i),
    fun i => real_of_between (Host.reduce_andi_all _ _ _ _ _ h2 i)⟩

/-- The side conditions of the second precondition. -/
theorem facts2 : Cert.Pre_finite2.Facts where
  bitsLt_bf16_f32 := by decide
  bcast_S_S16384x3072 := by decide
  reducesTo_S16384x3072_S_d0_1 := by decide
  h_S_ := by decide
  bcast_S_S1x64 := by decide
  reducesTo_S1x64_S_d0_1 := by decide

/-- Under the second precondition the projections and the four vectors of the differential weight hold real numbers. -/
theorem finite2_real (A : FVec Ideal Cert.Pre_finite2.S16384x3072 .bf16) (a b c d : FVec Ideal Cert.Pre_finite2.S1x64 .f32)
    (G : FVec Ideal Cert.Pre_finite2.S1x128 .f32)
    (h : @Cert.Pre_finite2.fn facts2 Ideal _ A a b c d G = fun _ => 1#1) :
    (∀ i, (A i : EReal) = (((A i : EReal).toReal : ℝ) : EReal)) ∧ (∀ i, (a i : EReal) = (((a i : EReal).toReal : ℝ) : EReal))
      ∧ (∀ i, (b i : EReal) = (((b i : EReal).toReal : ℝ) : EReal)) ∧ (∀ i, (c i : EReal) = (((c i : EReal).toReal : ℝ) : EReal))
      ∧ (∀ i, (d i : EReal) = (((d i : EReal).toReal : ℝ) : EReal)) := by
  obtain ⟨h, h5⟩ := IntOp.andi_eq_one.1 (congrFun h ix0)
  obtain ⟨h, h4⟩ := IntOp.andi_eq_one.1 h
  obtain ⟨h, h3⟩ := IntOp.andi_eq_one.1 h
  obtain ⟨h1, h2⟩ := IntOp.andi_eq_one.1 h
  exact ⟨fun i => real_of_between (Host.reduce_andi_all _ _ _ _ _ h1 i),
    fun i => real_of_between (Host.reduce_andi_all _ _ _ _ _ h2 i),
    fun i => real_of_between (Host.reduce_andi_all _ _ _ _ _ h3 i),
    fun i => real_of_between (Host.reduce_andi_all _ _ _ _ _ h4 i),
    fun i => real_of_between (Host.reduce_andi_all _ _ _ _ _ h5 i)⟩

/-- The real number an array holds at an index, 0 outside the array. -/
def entry {a b : ℕ} (A : (⟨2, ![a, b]⟩ : Shape).Idx → EReal) (i j : ℕ) : ℝ :=
  if h : i < a ∧ j < b then (A (ix2 ⟨i, h.1⟩ ⟨j, h.2⟩)).toReal else 0

theorem entry_eq {a b : ℕ} (A : (⟨2, ![a, b]⟩ : Shape).Idx → EReal) (hA : ∀ i, A i = (((A i).toReal : ℝ) : EReal)) (i : Fin a)
    (j : Fin b) : A (ix2 i j) = (entry A i.val j.val : EReal) := by
  unfold entry
  rw [dif_pos ⟨i.isLt, j.isLt⟩]
  exact hA (ix2 i j)

end Cert.Finite

end
-- ==== Proof.FoxClaims.lean ====
/- The claims about the forgetting attention: the three programs run without a fault and keep their arguments, and at the
   extended reals, on real arguments, the kernel's result is the reference's. -/
module

public import proofs.«01_k».proof.Defs
public import proofs.«01_k».proof.Proof.Gen.Fox.Frame
public import proofs.«01_k».proof.Proof.FoxValue
public import proofs.«01_k».proof.Proof.Finite
public import Idealize.ShloMosaic.Lib.Claim

@[expose] public section

set_option maxRecDepth 16384

noncomputable section

namespace Cert.Proof

open Idealize.ShloMosaic Idealize.ShloMosaic.TcCoe Idealize.SL.Sem

theorem frame_fox : Cert.quiescent_Fox (hFox := Cert.Fox.Gen.facts) := fun m ρ _ => Cert.Fox.Gen.frame m ρ

theorem frame_fox_ideal : Cert.quiescent_FoxIdeal (hFoxIdeal := Cert.FoxIdeal.Gen.facts) :=
  fun m ρ _ => Cert.FoxIdeal.Gen.frame m ρ

theorem frame_fox_ideal_finite : Cert.quiescent_FoxIdeal_pre_finite (hFoxIdeal := Cert.FoxIdeal.Gen.facts)
    (hPre_finite := Cert.Finite.facts) := fun m ρ _ => Cert.FoxIdeal.Gen.frame m ρ

theorem frame_fox_reference : Cert.quiescent_FoxRefIdeal (hFoxRefIdeal := Cert.FoxRefIdeal.Gen.facts) :=
  fun m ρ _ => (θ_run Cert.FoxRefIdeal.defs _ _).mono
    (fun r h => ⟨fun c => (h c).2, Idealize.ShloMosaic.sem_eq_zero_of_no_sems (by decide) r.2⟩)
    (Cert.FoxRefIdeal.Value.run (F := Ideal) m ρ)

theorem frame_fox_reference_finite : Cert.quiescent_FoxRefIdeal_pre_finite (hFoxRefIdeal := Cert.FoxRefIdeal.Gen.facts)
    (hPre_finite := Cert.Finite.facts) := fun m ρ _ => frame_fox_reference m ρ trivial

theorem preserves_fox : Cert.preserves_Fox_FoxIdeal :=
  IdealRules.named_const.statement Cert.FoxIdeal.κ "mask" .f32 0xF149F2CA#32 ⊥ rfl

theorem algebraic_fox : Cert.algebraic_FoxIdeal_FoxRefIdeal_pre_finite (hFoxIdeal := Cert.FoxIdeal.Gen.facts)
    (hFoxRefIdeal := Cert.FoxRefIdeal.Gen.facts) (hPre_finite := Cert.Finite.facts) := by
  intro m g m' g' hpre hagree
  refine ⟨fun c => Cert.FoxRefIdeal.Stages.attend (m ((c.tc : Thread _ _).loc Cert.FoxIdeal.main_arg0))
      (m ((c.tc : Thread _ _).loc Cert.FoxIdeal.main_arg1)),
    (θ_run Cert.FoxIdeal.defs _ _).mono (fun r h c => ⟨(h c).1.trans ?_, (h c).2⟩) (Cert.FoxIdeal.Value.run_blocks (F := Ideal) m g),
    (θ_run Cert.FoxRefIdeal.defs _ _).mono (fun r h c => ⟨(h c).1.trans ?_, (h c).2⟩) (Cert.FoxRefIdeal.Value.run (F := Ideal) m' g')⟩
  · obtain ⟨hA, hC⟩ := Cert.Finite.finite_real _ _ (hpre c)
    exact Cert.FoxIdeal.Attn.final m c _ _ (Cert.Finite.entry_eq _ hA) (Cert.Finite.entry_eq _ hC)
  · refine (Cert.FoxRefIdeal.Stages.res_attend m' c).trans ?_
    rw [(hagree c).1, (hagree c).2]

end Cert.Proof

end
-- ==== Proof.DiffTrip.lean ====
/- One trip of the differential attention's loop over key tiles: what it leaves in the three scratch buffers, and how that
   advances the running maximum, the running sum and the running weighted sum of both heads. -/
module

public import proofs.«01_k».proof.Proof.Gen.DiffIdeal.Value
public import proofs.«01_k».proof.Proof.FoxLoop

@[expose] public section

set_option maxRecDepth 16384

noncomputable section

open Idealize.ShloMosaic Idealize.ShloMosaic.TcCoe Idealize.SL.Sem

namespace Cert.DiffIdeal.Attn

open Cert.DiffIdeal Cert.DiffIdeal.Gen Cert.Online
open Cert.FoxIdeal.Attn (lo hi sum_lo sum_hi)

/-! ## The scratch buffers' parts -/

/-- The first head's part of a buffer of two heads. -/
abbrev fst : Rect S2x512x128 := Rect.unit ![0, 0, 0] S1x512x128.size inb_S2x512x128_S1x512x128_0_0_0

/-- The second head's part. -/
abbrev snd : Rect S2x512x128 := Rect.unit ![1, 0, 0] S1x512x128.size inb_S2x512x128_S1x512x128_1_0_0

section Reads

variable {κ : Kind} {sp : Space} {S : Shape} {e : EltTy} {Val : EltTy → Type}

theorem read_same (v : View sig κ sp S e) (f : v.ty.Contents Val) (r : Rect S) (w : r.shape.Idx → Val e)
    (L : List (View.Piece Val S e)) : v.readAt Val r.toLoadRect (v.writes Val f (⟨r, w⟩ :: L)) = w :=
  Cert.FoxIdeal.Attn.read_same v f r w L

theorem read_fst (v : View sig κ sp S2x512x128 e) (f : v.ty.Contents Val) (w : snd.shape.Idx → Val e)
    (L : List (View.Piece Val S2x512x128 e)) :
    v.readAt Val fst.toLoadRect (v.writes Val f (⟨snd, w⟩ :: L)) = v.readAt Val fst.toLoadRect (v.writes Val f L) :=
  Cert.FoxIdeal.Attn.read_fst v f w L

theorem read_snd (v : View sig κ sp S2x512x128 e) (f : v.ty.Contents Val) (w : fst.shape.Idx → Val e)
    (L : List (View.Piece Val S2x512x128 e)) :
    v.readAt Val snd.toLoadRect (v.writes Val f (⟨fst, w⟩ :: L)) = v.readAt Val snd.toLoadRect (v.writes Val f L) :=
  Cert.FoxIdeal.Attn.read_snd v f w L

end Reads

/-! ## Tiles of scores -/

/-- The lane mask: 1 at the first head's 64 columns. -/
abbrev lanes : IVec S1x128 1 := k0_pay39

/-- The keys with the second head's columns put to zero. -/
def firstKeys (kt : Vec Ideal S512x128 .bf16) : FVec Ideal S512x128 .bf16 :=
  select (broadcastTo S512x128 (shapeCast S1x128 lanes shapeCasts_S1x128_S1x128) broadcasts_S1x128_S512x128) kt
    (k0_pay1 (F := Ideal))

/-- The first head's tile of scores, `b` the tile's bias. -/
abbrev score0 (q : FVec Ideal S512x128 .bf16) (kt : Vec Ideal S512x128 .bf16) (b : FVec Ideal S1x512 .f32) :
    FVec Ideal S512x512 .f32 := k0_pay12 q (firstKeys kt) b

/-- The second head's. -/
abbrev score1 (q : FVec Ideal S512x128 .bf16) (kt : Vec Ideal S512x128 .bf16) (b : FVec Ideal S1x512 .f32) :
    FVec Ideal S512x512 .f32 := k0_pay12 q (k0_pay2 lanes kt) b

theorem score0_eq (q : FVec Ideal S512x128 .bf16) (kt : Vec Ideal S512x128 .bf16) (b : FVec Ideal S1x512 .f32)
    (r j : Fin 512) :
    score0 q kt b (ix2 r j) = (∑ x : Fin 64, q (ix2 r (lo x)) * kt (ix2 j (lo x))) + b (ix2 0 j) := by
  pointwise [k0_pay12, firstKeys, k0_pay39, k0_pay1]
  simp only [select_lane]
  rw [sum_lo fun x => q (ix2 r x) * kt (ix2 j x)]

theorem score1_eq (q : FVec Ideal S512x128 .bf16) (kt : Vec Ideal S512x128 .bf16) (b : FVec Ideal S1x512 .f32)
    (r j : Fin 512) :
    score1 q kt b (ix2 r j) = (∑ x : Fin 64, q (ix2 r (hi x)) * kt (ix2 j (hi x))) + b (ix2 0 j) := by
  pointwise [k0_pay12, k0_pay2, k0_pay39, k0_pay1]
  simp only [select_lane]
  rw [sum_hi fun x => q (ix2 r x) * kt (ix2 j x)]

/-! ## The bias -/

/-- The bias of the tile that starts at the key the word `a` counts, from the tile's first row `t` on. -/
abbrev bias (a t : BitVec 32) (sl : FVec Ideal S1x1 .f32) (io : IVec S1x512 32) : FVec Ideal S1x512 .f32 :=
  mulf (broadcastTo S1x512 sl broadcasts_S1x1_S1x512)
    (sitofp .f32 (addi io (broadcast S1x512 (Scalar.subi a t))))

/-- The positions in a tile. -/
abbrev places : IVec S1x512 32 := iota .tc S1x512 32 [1] iota_S1x512_d1_w32

theorem word_diff (j a t : ℕ) (hj : j < 2 ^ 20) (ha : a < 2 ^ 20) (ht : t < 2 ^ 20) :
    (BitVec.ofNat 32 j + (BitVec.ofNat 32 a - BitVec.ofNat 32 t)).toInt = (j : ℤ) + (a - t) := by
  rw [BitVec.toInt_eq_toNat_cond]
  simp only [BitVec.toNat_add, BitVec.toNat_sub, BitVec.toNat_ofNat]
  split_ifs <;> omega

theorem bias_eq (j : Fin 512) (a t : ℕ) (ha : a < 2 ^ 20) (ht : t < 2 ^ 20) (sl : FVec Ideal S1x1 .f32) :
    bias (BitVec.ofNat 32 a) (BitVec.ofNat 32 t) sl places (ix2 0 j)
      = sl (ix2 0 0) * (((a + j : ℕ) : ℝ) - (t : ℝ) : ℝ) := by
  have h := word_diff j.val a t (by omega) ha ht
  pointwise
  refine congrArg (sl (ix2 0 0) * ·) ?_
  refine (congrArg (fun n : ℤ => ((n : ℝ) : EReal)) h).trans ?_
  refine congrArg Real.toEReal ?_
  push_cast
  ring

/-! ## The trip -/

/-- The running maximum after a tile, as it is stored. -/
abbrev nextTop (X : FVec Ideal S512x512 .f32) (m : Vec Ideal S1x512x128 .f32) : FVec Ideal S1x512x128 .f32 :=
  Cert.FoxIdeal.Gen.k0_pay66 (Cert.FoxIdeal.Gen.k0_pay60 m) (rowMax X)

/-- A head's running weighted sum after a tile. -/
abbrev nextAcc (V : Vec Ideal S512x128 .bf16) (X : FVec Ideal S512x512 .f32) (m acc : Vec Ideal S1x512x128 .f32) :
    FVec Ideal S1x512x128 .f32 :=
  k0_pay45 (rescale X m) (Cert.FoxIdeal.Gen.k0_pay67 V X (Cert.FoxIdeal.Gen.k0_pay60 m) (rowMax X)) acc

theorem nextAcc_eq {V : Vec Ideal S512x128 .bf16} {X : FVec Ideal S512x512 .f32} {m acc : Vec Ideal S1x512x128 .f32}
    {s : Fin 512 → ℕ → EReal} {n : ℕ} {v : Fin 128 → ℕ → EReal}
    (hX : IsTile X s n) (hm : IsMax m s n) (hV : ∀ (j : Fin 512) (d : Fin 128), V (ix2 j d) = v d (n + j))
    (hacc : ∀ (r : Fin 512) (d : Fin 128), acc (ix3 0 r d) = num (s r) (v d) n (top (s r) n))
    (r : Fin 512) (d : Fin 128) :
    nextAcc V X m acc (ix3 0 r d) = num (s r) (v d) (n + 512) (top (s r) (n + 512)) := by
  rw [← nextAcc_one hX hm hV hacc r d]
  unfold nextAcc
  generalize rescale X m = Z
  generalize Cert.FoxIdeal.Gen.k0_pay67 V X (Cert.FoxIdeal.Gen.k0_pay60 m) (rowMax X) = W
  pointwise [k0_pay45]

section Trip

variable (c : Dev nD) (i : grid0.Coords)
  (arg2 : Memref sig .tc .vmem S512x128 .bf16) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S1x128 .f32) (harg9 : arg9.IsWhole)
  (arg10 : Memref sig .tc .vmem S512x128 .bf16) (harg10 : arg10.IsWhole)
  (arg11 : Memref sig .tc .vmem S2x512x128 .f32) (harg11 : arg11.IsWhole)
  (arg12 : Memref sig .tc .vmem S2x512x128 .f32) (harg12 : arg12.IsWhole)
  (arg13 : Memref sig .tc .vmem S2x512x128 .f32) (harg13 : arg13.IsWhole)
  (arg1 : BitVec 32) (q : FVec Ideal S512x128 .bf16) (v19 : BitVec 32) (sl : FVec Ideal S1x1 .f32) (io : IVec S1x512 32)
  (c0 v31 c1 : BitVec 32)
  (X3 : BufTy.Contents (Elt Ideal) arg3.view.ty) (X4 : BufTy.Contents (Elt Ideal) arg4.view.ty)
  (k : Fin (k0_t1_loop i).trips)
  (f11 : BufTy.Contents (Elt Ideal) arg11.view.ty) (f12 : BufTy.Contents (Elt Ideal) arg12.view.ty)
  (f13 : BufTy.Contents (Elt Ideal) arg13.view.ty)

/-- The keys of trip `k`. -/
abbrev keyTile : Vec Ideal S512x128 .bf16 :=
  arg3.view.readAt (Elt Ideal) (Rect.unit (s := S16384x128) (k0_off1 i k) S512x128.size (k0_off1_inb i k)).toLoadRect X3

/-- The values of trip `k`. -/
abbrev valueTile : Vec Ideal S512x128 .bf16 :=
  arg4.view.readAt (Elt Ideal) (Rect.unit (s := S16384x128) (k0_off1 i k) S512x128.size (k0_off1_inb i k)).toLoadRect X4

/-- What a trip writes, given the two tiles of scores, the values and what it finds. -/
abbrev leaves (X X' : FVec Ideal S512x512 .f32) (vt : Vec Ideal S512x128 .bf16)
    (m m' a a' acc acc' : Vec Ideal S1x512x128 .f32) :
    List (View.Piece (Elt Ideal) S2x512x128 .f32) × List (View.Piece (Elt Ideal) S2x512x128 .f32)
      × List (View.Piece (Elt Ideal) S2x512x128 .f32) :=
  ([⟨snd, nextTop X' m'⟩, ⟨fst, nextTop X m⟩],
   [⟨snd, nextSum X' m' a'⟩, ⟨fst, nextSum X m a⟩],
   [⟨snd, nextAcc vt X' m' acc'⟩, ⟨fst, nextAcc vt X m acc⟩])

theorem trip_eq : tripL_k0_t1 (F := Ideal) Variants.none c none i arg2 harg2 arg3 harg3 arg4 harg4 arg5 harg5 arg6 harg6 arg7 harg7
      arg8 harg8 arg9 harg9 arg10 harg10 arg11 harg11 arg12 harg12 arg13 harg13 arg1 lanes q v19 sl io c0 v31 c1 X3 X4 k f11 f12 f13
    = leaves (score0 q (keyTile i arg3 X3 k) (bias (Scalar.muli (Scf.iv c0 c1 k) 512#32) v19 sl io))
        (score1 q (keyTile i arg3 X3 k) (bias (Scalar.muli (Scf.iv c0 c1 k) 512#32) v19 sl io)) (valueTile i arg4 X4 k)
        (arg11.view.readAt (Elt Ideal) fst.toLoadRect f11) (arg11.view.readAt (Elt Ideal) snd.toLoadRect f11)
        (arg12.view.readAt (Elt Ideal) fst.toLoadRect f12) (arg12.view.readAt (Elt Ideal) snd.toLoadRect f12)
        (arg13.view.readAt (Elt Ideal) fst.toLoadRect f13) (arg13.view.readAt (Elt Ideal) snd.toLoadRect f13) := by
  unfold tripL_k0_t1 trip_k0_t1
  rfl

end Trip

/-! ## What the buffers hold, and the step -/

section Step

variable {ρ7 ρ8 ρ9 : View sig .tc .vmem S2x512x128 .f32}

/-- The three buffers hold the running maxima, sums and weighted sums of both heads over the first `n` keys. -/
structure Holds (ρ7 ρ8 ρ9 : View sig .tc .vmem S2x512x128 .f32) (f7 : ρ7.ty.Contents (Elt Ideal))
    (f8 : ρ8.ty.Contents (Elt Ideal)) (f9 : ρ9.ty.Contents (Elt Ideal)) (s s' : Fin 512 → ℕ → EReal)
    (v : Fin 128 → ℕ → EReal) (n : ℕ) : Prop where
  max0 : IsMax (ρ7.readAt (Elt Ideal) fst.toLoadRect f7) s n
  max1 : IsMax (ρ7.readAt (Elt Ideal) snd.toLoadRect f7) s' n
  sum0 : IsSum (ρ8.readAt (Elt Ideal) fst.toLoadRect f8) s n
  sum1 : IsSum (ρ8.readAt (Elt Ideal) snd.toLoadRect f8) s' n
  acc0 : ∀ (r : Fin 512) (d : Fin 128), ρ9.readAt (Elt Ideal) fst.toLoadRect f9 (ix3 0 r d)
    = num (s r) (v d) n (top (s r) n)
  acc1 : ∀ (r : Fin 512) (d : Fin 128), ρ9.readAt (Elt Ideal) snd.toLoadRect f9 (ix3 0 r d)
    = num (s' r) (v d) n (top (s' r) n)

theorem Holds.step {f7 : ρ7.ty.Contents (Elt Ideal)} {f8 : ρ8.ty.Contents (Elt Ideal)} {f9 : ρ9.ty.Contents (Elt Ideal)}
    {s s' : Fin 512 → ℕ → EReal} {v : Fin 128 → ℕ → EReal} {n : ℕ} (h : Holds ρ7 ρ8 ρ9 f7 f8 f9 s s' v n)
    {X X' : FVec Ideal S512x512 .f32} {vt : Vec Ideal S512x128 .bf16} (hX : IsTile X s n) (hX' : IsTile X' s' n)
    (hv : ∀ (j : Fin 512) (d : Fin 128), vt (ix2 j d) = v d (n + j)) {L}
    (hL : L = leaves X X' vt
      (ρ7.readAt (Elt Ideal) fst.toLoadRect f7) (ρ7.readAt (Elt Ideal) snd.toLoadRect f7)
      (ρ8.readAt (Elt Ideal) fst.toLoadRect f8) (ρ8.readAt (Elt Ideal) snd.toLoadRect f8)
      (ρ9.readAt (Elt Ideal) fst.toLoadRect f9) (ρ9.readAt (Elt Ideal) snd.toLoadRect f9)) :
    Holds ρ7 ρ8 ρ9 (ρ7.writes (Elt Ideal) f7 L.1) (ρ8.writes (Elt Ideal) f8 L.2.1) (ρ9.writes (Elt Ideal) f9 L.2.2)
      s s' v (n + 512) := by
  subst hL
  refine ⟨?_, ?_, ?_, ?_, ?_, ?_⟩
  · rw [read_fst, read_same]; exact nextMax_isMax hX h.max0
  · rw [read_same]; exact nextMax_isMax hX' h.max1
  · rw [read_fst, read_same]; exact nextSum_eq hX h.max0 h.sum0
  · rw [read_same]; exact nextSum_eq hX' h.max1 h.sum1
  · rw [read_fst, read_same]; exact nextAcc_eq hX h.max0 hv h.acc0
  · rw [read_same]; exact nextAcc_eq hX' h.max1 hv h.acc1

end Step

/-! ## The words that place the tiles -/

theorem trips_eq (i : grid0.Coords) : (k0_t1_loop i).trips = (i 1).val :=
  (by decide +kernel : ∀ n : Fin 32, (Scf.Loop.mk 0#32 (Scalar.addi 0#32 (Scalar.muli (Scalar.divsi
    (Scalar.subi (BitVec.ofNat 32 n.val) 0#32) 1#32) 1#32)) 1#32).trips = n.val) (i 1)

theorem empty_eq (i : grid0.Coords) : (k0_t2_loop i).trips = 0 :=
  (by decide +kernel : ∀ n : Fin 32, (Scf.Loop.mk (Scalar.addi 0#32 (Scalar.muli (Scalar.divsi
    (Scalar.subi (BitVec.ofNat 32 n.val) 0#32) 1#32) 1#32)) (Scalar.addi 0#32 (Scalar.subi (BitVec.ofNat 32 n.val) 0#32))
    1#32).trips = 0) (i 1)

theorem trip_lt (i : grid0.Coords) (k : Fin (k0_t1_loop i).trips) : k.val < 32 :=
  (lt_of_lt_of_eq k.isLt (trips_eq i)).trans (i 1).isLt

open Cert.FoxIdeal.Attn (iv_word off_word)

theorem off1_eq (i : grid0.Coords) (k : Fin (k0_t1_loop i).trips) : k0_off1 i k = ![512 * k.val, 0] := by
  simp only [k0_off1, iv_word, off_word _ (trip_lt i k)]

theorem off3_eq (i : grid0.Coords) : k0_off3 i = ![512 * (i 1).val, 0] := by
  simp only [k0_off3, off_word _ (i 1).isLt]

theorem place_word (k : ℕ) (h : k < 32) : Scalar.muli (BitVec.ofNat 32 k) 512#32 = BitVec.ofNat 32 (512 * k) := by
  apply BitVec.eq_of_toNat_eq
  show (BitVec.ofNat 32 k * 512#32).toNat = _
  rw [BitVec.toNat_mul, BitVec.toNat_ofNat, BitVec.toNat_ofNat, BitVec.toNat_ofNat]
  omega

end Cert.DiffIdeal.Attn
-- ==== Proof.DiffLoop.lean ====
/- The differential attention's loop over the key tiles before the diagonal one, and the diagonal tile: after `k` tiles the
   scratch buffers hold the running maximum, sum and weighted sum of both heads over the first `512 k` keys. -/
module

public import proofs.«01_k».proof.Proof.DiffTrip

@[expose] public section

set_option maxRecDepth 16384

noncomputable section

open Idealize.ShloMosaic Idealize.ShloMosaic.TcCoe Idealize.SL.Sem

namespace Cert.DiffIdeal.Attn

open Cert.DiffIdeal Cert.DiffIdeal.Gen Cert.Online
open Cert.FoxIdeal.Attn (lo hi ofBits_eighth select_diag iv_word)

/-! ## The blocks a grid point reads, as real numbers -/

/-- The query, key and value blocks of a grid point hold the real numbers `q`, `k` and `v`. -/
structure Blocks (x0 : Vec Ideal S512x128 .bf16) (x1 x2 : Vec Ideal S16384x128 .bf16)
    (q : Fin 512 → Fin 128 → ℝ) (k v : ℕ → Fin 128 → ℝ) : Prop where
  query : ∀ (r : Fin 512) (d : Fin 128), x0 (ix2 r d) = (q r d : EReal)
  key : ∀ (j : Fin 16384) (d : Fin 128), x1 (ix2 j d) = (k j.val d : EReal)
  value : ∀ (j : Fin 16384) (d : Fin 128), x2 (ix2 j d) = (v j.val d : EReal)

/-- The slope of the position bias of head pair `n`. -/
def slope (n : ℕ) : ℝ := Real.rpow 2 (-2 * ((n : ℝ) + 1))

/-- The score of query row `r` and key `j`, its distance counted from row `t0` on; `col` is the head's columns. -/
def score (col : Fin 64 → Fin 128) (q : Fin 512 → Fin 128 → ℝ) (k : ℕ → Fin 128 → ℝ) (w : ℝ) (t0 : ℕ) (r : Fin 512)
    (j : ℕ) : ℝ := (∑ x : Fin 64, q r (col x) * (1 / 8) * k j (col x)) + w * ((j : ℝ) - (t0 : ℝ))

theorem scaled_eq (x0 : Vec Ideal S512x128 .bf16) (r : Fin 512) (d : Fin 128) :
    (k0_pay40 x0 : FVec Ideal S512x128 .bf16) (ix2 r d) = x0 (ix2 r d) * ((1 / 8 : ℝ) : EReal) := by
  pointwise [k0_pay40]
  rw [ofBits_eighth]

theorem minus_two : Ideal.ofBits FTy.f32 0xC0000000#32 = ((-2 : ℝ) : EReal) := by
  simp [Ideal.ofBits, Ideal.ieee]
  rw [← EReal.coe_mul]
  norm_num

theorem head_word (n : ℕ) (h : n < 4) : (Scalar.addi (BitVec.ofNat 32 n) 1#32).toInt = (n : ℤ) + 1 := by
  interval_cases n <;> decide

theorem slope_eq (i : grid0.Coords) : (k0_pay44 i : FVec Ideal S1x1 .f32) (ix2 0 0) = (slope (i 0).val : EReal) := by
  pointwise [k0_pay44]
  rw [minus_two]
  have h := head_word (i 0).val (i 0).isLt
  refine (congrArg (fun n : ℤ => Ideal.exp2 (((-2 : ℝ) : EReal) * ((n : ℝ) : EReal))) h).trans ?_
  rw [← EReal.coe_mul, Ideal.exp2_coe]
  refine congrArg Real.toEReal ?_
  unfold slope
  push_cast
  rfl

theorem dot_real (a b : Fin 64 → ℝ) (e f : ℝ) :
    (∑ x : Fin 64, (a x : EReal) * ((1 / 8 : ℝ) : EReal) * (b x : EReal)) + ((e : EReal) * (f : EReal))
      = (((∑ x : Fin 64, a x * (1 / 8) * b x) + e * f : ℝ) : EReal) := by
  rw [EReal.coe_add, EReal.coe_mul]
  congr 1

section Scores

variable {x0 : Vec Ideal S512x128 .bf16} {q : Fin 512 → Fin 128 → ℝ} {k : ℕ → Fin 128 → ℝ} {w : ℝ}
  {sl : FVec Ideal S1x1 .f32} {kt : Vec Ideal S512x128 .bf16} {t0 n : ℕ}

theorem score0_real (hq : ∀ (r : Fin 512) (d : Fin 128), x0 (ix2 r d) = (q r d : EReal))
    (hw : sl (ix2 0 0) = (w : EReal)) (hk : ∀ (j : Fin 512) (d : Fin 128), kt (ix2 j d) = (k (n + j) d : EReal))
    (hn : n < 2 ^ 20) (ht : t0 < 2 ^ 20) (r j : Fin 512) :
    score0 (k0_pay40 x0) kt (bias (BitVec.ofNat 32 n) (BitVec.ofNat 32 t0) sl places) (ix2 r j)
      = (score lo q k w t0 r (n + j) : EReal) := by
  rw [score0_eq, bias_eq j n t0 hn ht, hw]
  simp only [scaled_eq, hq, hk]
  exact dot_real (fun x => q r (lo x)) (fun x => k (n + j) (lo x)) _ _

theorem score1_real (hq : ∀ (r : Fin 512) (d : Fin 128), x0 (ix2 r d) = (q r d : EReal))
    (hw : sl (ix2 0 0) = (w : EReal)) (hk : ∀ (j : Fin 512) (d : Fin 128), kt (ix2 j d) = (k (n + j) d : EReal))
    (hn : n < 2 ^ 20) (ht : t0 < 2 ^ 20) (r j : Fin 512) :
    score1 (k0_pay40 x0) kt (bias (BitVec.ofNat 32 n) (BitVec.ofNat 32 t0) sl places) (ix2 r j)
      = (score hi q k w t0 r (n + j) : EReal) := by
  rw [score1_eq, bias_eq j n t0 hn ht, hw]
  simp only [scaled_eq, hq, hk]
  exact dot_real (fun x => q r (hi x)) (fun x => k (n + j) (hi x)) _ _

end Scores

/-! ## The diagonal tile's mask -/

theorem named_mask : (Named.named κ "mask" 0xF149F2CA#32 : Ideal .f32) = ⊥ :=
  IdealRules.named_const.ideal_named_scalar _ _ _ _ rfl

/-- A tile of scores with the mask above the diagonal. -/
def onDiag (X : FVec Ideal S512x512 .f32) : FVec Ideal S512x512 .f32 :=
  select k0_pay52 X (broadcast S512x512 (Named.named κ "mask" 0xF149F2CA#32))

theorem onDiag_eq (X : FVec Ideal S512x512 .f32) (r j : Fin 512) :
    onDiag X (ix2 r j) = if j.val ≤ r.val then X (ix2 r j) else ⊥ := by
  pointwise [onDiag, k0_pay52]
  rw [select_diag, named_mask]

/-! ## The loop -/

/-- What a load of a whole buffer's part reads, by index. -/
theorem load2 {e : EltTy} {S : Shape} {m : Memref sig .tc .vmem S e} (hm : m.IsWhole) (x : S.Idx → Elt Ideal e) (r : Rect S)
    (y : r.shape.Idx) (z : S.Idx) (h : r.idx y = z) : m.view.readAt (Elt Ideal) r.toLoadRect (hm.unread x) y = x z := by
  rw [View.readAt_eq_ld, Memref.IsWhole.read_unread]
  exact congrArg x h

section Loop

variable (c : Dev nD) (i : grid0.Coords)
  (arg2 : Memref sig .tc .vmem S512x128 .bf16) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S1x128 .f32) (harg9 : arg9.IsWhole)
  (arg10 : Memref sig .tc .vmem S512x128 .bf16) (harg10 : arg10.IsWhole)
  (arg11 : Memref sig .tc .vmem S2x512x128 .f32) (harg11 : arg11.IsWhole)
  (arg12 : Memref sig .tc .vmem S2x512x128 .f32) (harg12 : arg12.IsWhole)
  (arg13 : Memref sig .tc .vmem S2x512x128 .f32) (harg13 : arg13.IsWhole)
  (arg1 : BitVec 32) (v31 : BitVec 32)
  {x0 : Vec Ideal S512x128 .bf16} {x1 x2 : Vec Ideal S16384x128 .bf16}
  {q : Fin 512 → Fin 128 → ℝ} {k v : ℕ → Fin 128 → ℝ}

/-- The first head's masked scores of the rows of query tile `i`. -/
abbrev row0 (i : grid0.Coords) (q : Fin 512 → Fin 128 → ℝ) (k : ℕ → Fin 128 → ℝ) (r : Fin 512) : ℕ → EReal :=
  masked (score lo q k (slope (i 0).val) (512 * (i 1).val) r) (512 * (i 1).val + r.val)

/-- The second head's. -/
abbrev row1 (i : grid0.Coords) (q : Fin 512 → Fin 128 → ℝ) (k : ℕ → Fin 128 → ℝ) (r : Fin 512) : ℕ → EReal :=
  masked (score hi q k (slope (i 0).val) (512 * (i 1).val) r) (512 * (i 1).val + r.val)

/-- The values as extended reals. -/
abbrev vals (v : ℕ → Fin 128 → ℝ) (d : Fin 128) (j : ℕ) : EReal := (v j d : EReal)

theorem keyTile_eq (hb : Blocks x0 x1 x2 q k v) (n : Fin (k0_t1_loop i).trips) (j : Fin 512) (d : Fin 128) :
    keyTile i arg3 (harg3.unread x1) n (ix2 j d) = (k (512 * n.val + j.val) d : EReal) := by
  have hn := trip_lt i n
  refine (load2 harg3 x1 _ _ (ix2 ⟨512 * n.val + j.val, by omega⟩ d) ?_).trans (hb.key _ _)
  funext a
  apply Fin.ext
  fin_cases a <;> simp [off1_eq]

theorem valueTile_eq (hb : Blocks x0 x1 x2 q k v) (n : Fin (k0_t1_loop i).trips) (j : Fin 512) (d : Fin 128) :
    valueTile i arg4 (harg4.unread x2) n (ix2 j d) = (v (512 * n.val + j.val) d : EReal) := by
  have hn := trip_lt i n
  refine (load2 harg4 x2 _ _ (ix2 ⟨512 * n.val + j.val, by omega⟩ d) ?_).trans (hb.value _ _)
  funext a
  apply Fin.ext
  fin_cases a <;> simp [off1_eq]

/-- The word that counts the first row of query tile `i`. -/
abbrev rowWord (i : grid0.Coords) : BitVec 32 := Scalar.muli (BitVec.ofNat 32 (i 1).val) 512#32

/-- The pieces that the first `n` trips write, over the contents `f7`, `f8`, `f9` at entry. -/
abbrev pieces (x0 : Vec Ideal S512x128 .bf16) (x1 x2 : Vec Ideal S16384x128 .bf16)
    (f7 : BufTy.Contents (Elt Ideal) arg11.view.ty) (f8 : BufTy.Contents (Elt Ideal) arg12.view.ty)
    (f9 : BufTy.Contents (Elt Ideal) arg13.view.ty) (n : ℕ) :=
  pb_k0_t1 (F := Ideal) Variants.none c none i arg2 harg2 arg3 harg3 arg4 harg4 arg5 harg5 arg6 harg6 arg7 harg7
      arg8 harg8 arg9 harg9 arg10 harg10 arg11 harg11 arg12 harg12 arg13 harg13
      arg1 lanes (k0_pay40 x0) (rowWord i) (k0_pay44 i) places 0#32 v31 1#32 (harg3.unread x1) (harg4.unread x2) f7 f8 f9 n

theorem loop (hb : Blocks x0 x1 x2 q k v)
    (f7 : BufTy.Contents (Elt Ideal) arg11.view.ty) (f8 : BufTy.Contents (Elt Ideal) arg12.view.ty)
    (f9 : BufTy.Contents (Elt Ideal) arg13.view.ty)
    (h0 : Holds arg11.view arg12.view arg13.view f7 f8 f9 (row0 i q k) (row1 i q k) (vals v) 0) :
    ∀ n, n ≤ (k0_t1_loop i).trips → Holds arg11.view arg12.view arg13.view
      (arg11.view.writes (Elt Ideal) f7 (pieces c i arg2 harg2 arg3 harg3 arg4 harg4 arg5 harg5 arg6 harg6 arg7 harg7
      arg8 harg8 arg9 harg9 arg10 harg10 arg11 harg11 arg12 harg12 arg13 harg13 arg1 v31 x0 x1 x2 f7 f8 f9 n).1)
      (arg12.view.writes (Elt Ideal) f8 (pieces c i arg2 harg2 arg3 harg3 arg4 harg4 arg5 harg5 arg6 harg6 arg7 harg7
      arg8 harg8 arg9 harg9 arg10 harg10 arg11 harg11 arg12 harg12 arg13 harg13 arg1 v31 x0 x1 x2 f7 f8 f9 n).2.1)
      (arg13.view.writes (Elt Ideal) f9 (pieces c i arg2 harg2 arg3 harg3 arg4 harg4 arg5 harg5 arg6 harg6 arg7 harg7
      arg8 harg8 arg9 harg9 arg10 harg10 arg11 harg11 arg12 harg12 arg13 harg13 arg1 v31 x0 x1 x2 f7 f8 f9 n).2.2)
      (row0 i q k) (row1 i q k) (vals v) (512 * n)
  | 0, _ => h0
  | n + 1, hn => by
    have ih := loop hb f7 f8 f9 h0 n (by omega)
    have hi := trips_eq i
    have hl : (i 1).val < 32 := (i 1).isLt
    have hs : (pieces c i arg2 harg2 arg3 harg3 arg4 harg4 arg5 harg5 arg6 harg6 arg7 harg7
      arg8 harg8 arg9 harg9 arg10 harg10 arg11 harg11 arg12 harg12 arg13 harg13 arg1 v31 x0 x1 x2 f7 f8 f9 (n + 1)) = _ :=
      pb_k0_t1_succ Variants.none c none i arg2 harg2 arg3 harg3 arg4 harg4 arg5 harg5 arg6 harg6 arg7 harg7
      arg8 harg8 arg9 harg9 arg10 harg10 arg11 harg11 arg12 harg12 arg13 harg13
        arg1 lanes (k0_pay40 x0) (rowWord i) (k0_pay44 i) places 0#32 v31 1#32 (harg3.unread x1) (harg4.unread x2)
        f7 f8 f9 ⟨n, hn⟩
    rw [hs]
    simp only [View.writes_append]
    have hw : Scalar.muli (Scf.iv 0#32 1#32 n) 512#32 = BitVec.ofNat 32 (512 * n) := by
      rw [iv_word, place_word n (by omega)]
    have hr : rowWord i = BitVec.ofNat 32 (512 * (i 1).val) := place_word _ hl
    refine ih.step ?_ ?_ ?_ (trip_eq c i arg2 harg2 arg3 harg3 arg4 harg4 arg5 harg5 arg6 harg6 arg7 harg7
      arg8 harg8 arg9 harg9 arg10 harg10 arg11 harg11 arg12 harg12 arg13 harg13
        arg1 (k0_pay40 x0) (rowWord i) (k0_pay44 i) places 0#32 v31 1#32 (harg3.unread x1) (harg4.unread x2) ⟨n, hn⟩ _ _ _)
    · intro r j
      rw [hw, hr,
        score0_real hb.query (slope_eq i) (keyTile_eq i arg3 harg3 hb ⟨n, hn⟩) (by dsimp only; omega) (by omega)]
      exact (if_pos (by have := j.isLt; dsimp only; omega)).symm
    · intro r j
      rw [hw, hr,
        score1_real hb.query (slope_eq i) (keyTile_eq i arg3 harg3 hb ⟨n, hn⟩) (by dsimp only; omega) (by omega)]
      exact (if_pos (by have := j.isLt; dsimp only; omega)).symm
    · exact valueTile_eq i arg4 harg4 hb ⟨n, hn⟩

end Loop

end Cert.DiffIdeal.Attn
-- ==== Proof.DiffNorm.lean ====
/- What both programs of the differential attention do with a row once its heads' averages are known: the weight of the
   second head and the normalisation of the difference. -/
module

public import proofs.«01_k».proof.Proof.Softmax
public import Idealize.ShloMosaic.Lib.Pipeline.ValueKit

@[expose] public section

noncomputable section

open Idealize.ShloMosaic

namespace Cert.DiffNorm

/-- A row divided by the root of its mean square, multiplied by the gain and by one less the constant of the second head's
    weight. -/
def normed (w g : Fin 128 → EReal) (d : Fin 128) : EReal :=
  w d * Ideal.rsqrt (Ideal.div (∑ x : Fin 128, w x * w x) (Ideal.ofBits FTy.f32 0x43000000#32)
    + Ideal.ofBits FTy.f32 0x358637BD#32) * g d * Ideal.ofBits FTy.f32 0x3F4CCCCD#32

/-- The constant of the second head's weight. -/
def initial : ℝ := 13421773 / 67108864

theorem initial_eq : Ideal.ofBits FTy.f32 0x3E4CCCCD#32 = (initial : EReal) := by
  unfold initial
  simp [Ideal.ofBits, Ideal.ieee]
  rw [← EReal.coe_mul]
  norm_num

/-- The weight of the second head, from the two pairs of vectors. -/
def lam (a b c d : Fin 64 → EReal) : EReal :=
  Ideal.exp (∑ x : Fin 64, a x * b x) - Ideal.exp (∑ x : Fin 64, c x * d x) + Ideal.ofBits FTy.f32 0x3E4CCCCD#32

/-- It is a real number when the vectors are. -/
theorem lam_real (a b c d : Fin 64 → ℝ) : lam (fun x => (a x : EReal)) (fun x => (b x : EReal)) (fun x => (c x : EReal))
    (fun x => (d x : EReal))
      = ((Real.exp (∑ x : Fin 64, a x * b x) - Real.exp (∑ x : Fin 64, c x * d x) + initial : ℝ) : EReal) := by
  have dot : ∀ u v : Fin 64 → ℝ, (∑ x : Fin 64, (u x : EReal) * (v x : EReal)) = ((∑ x : Fin 64, u x * v x : ℝ) : EReal) := by
    intro u v
    induction (Finset.univ : Finset (Fin 64)) using Finset.induction_on with
    | empty => simp
    | insert x s hx ih => rw [Finset.sum_insert hx, Finset.sum_insert hx, ih, EReal.coe_add, EReal.coe_mul]
  unfold lam
  rw [dot, dot, Ideal.exp_coe, Ideal.exp_coe, initial_eq, ← EReal.coe_sub, ← EReal.coe_add]

end Cert.DiffNorm

end
-- ==== Proof.DiffPoint.lean ====
/- The differential attention's block of output at a grid point: the tile on the diagonal after the loop over the tiles
   before it, the division of each head's sums, the difference of the heads and its normalisation. -/
module

public import proofs.«01_k».proof.Proof.DiffLoop
public import proofs.«01_k».proof.Proof.DiffNorm

@[expose] public section

set_option maxRecDepth 16384

noncomputable section

open Idealize.ShloMosaic Idealize.ShloMosaic.TcCoe Idealize.SL.Sem

namespace Cert.DiffIdeal.Attn

open Cert.DiffIdeal Cert.DiffIdeal.Gen Cert.Online
open Cert.FoxIdeal.Attn (lo hi)

section Point

variable (c : Dev nD) (i : grid0.Coords)
  (arg2 : Memref sig .tc .vmem S512x128 .bf16) (harg2 : arg2.IsWhole)
  (arg3 : Memref sig .tc .vmem S16384x128 .bf16) (harg3 : arg3.IsWhole)
  (arg4 : Memref sig .tc .vmem S16384x128 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S1x128 .f32) (harg9 : arg9.IsWhole)
  (arg10 : Memref sig .tc .vmem S512x128 .bf16) (harg10 : arg10.IsWhole)
  (arg11 : Memref sig .tc .vmem S2x512x128 .f32) (harg11 : arg11.IsWhole)
  (arg12 : Memref sig .tc .vmem S2x512x128 .f32) (harg12 : arg12.IsWhole)
  (arg13 : Memref sig .tc .vmem S2x512x128 .f32) (harg13 : arg13.IsWhole)
  (x0 : Vec Ideal S512x128 .bf16) (x1 x2 : Vec Ideal S16384x128 .bf16) (x3 x4 x5 x6 : Vec Ideal S1x64 .f32)
  (x7 : Vec Ideal S1x128 .f32)

/-! ## The blocks the point reads beside the loop's -/

/-- The diagonal tile's keys. -/
abbrev keyDiag : Vec Ideal S512x128 .bf16 :=
  arg3.view.readAt (Elt Ideal) (Rect.unit (s := S16384x128) (k0_off3 i) S512x128.size (k0_off3_inb i)).toLoadRect (harg3.unread x1)

/-- Its values. -/
abbrev valueDiag : Vec Ideal S512x128 .bf16 :=
  arg4.view.readAt (Elt Ideal) (Rect.unit (s := S16384x128) (k0_off3 i) S512x128.size (k0_off3_inb i)).toLoadRect (harg4.unread x2)

/-- The query block, scaled. -/
abbrev scaled : FVec Ideal S512x128 .bf16 :=
  k0_pay40 (arg2.view.readAt (Elt Ideal) (Rect.unit (s := S512x128) ![0, 0] S512x128.size inb_S512x128_S512x128_0_0).toLoadRect (harg2.unread x0))

theorem scaled_whole : scaled arg2 harg2 x0 = k0_pay40 x0 := by
  unfold scaled
  rw [View.readAt_eq_ld, Memref.IsWhole.read_unread, View.ld_unit_lit]
  decide

/-- The bias of the diagonal tile. -/
abbrev biasDiag (i : grid0.Coords) : FVec Ideal S1x512 .f32 := bias (rowWord i) (rowWord i) (k0_pay44 i) places

/-- The tile's scores, masked above the diagonal. -/
abbrev X0 := onDiag (score0 (k0_pay40 x0) (keyDiag i arg3 harg3 x1) (biasDiag i))

/-- The second head's. -/
abbrev X1 := onDiag (score1 (k0_pay40 x0) (keyDiag i arg3 harg3 x1) (biasDiag i))

/-! ## The scratch buffers before the diagonal tile -/

/-- The maxima at the start. -/
abbrev start7 := arg11.view.writes (Elt Ideal) arg11.view.junk kernelRun0_A.sl.HS0_1
/-- The sums at the start. -/
abbrev start8 := arg12.view.writes (Elt Ideal) arg12.view.junk kernelRun0_A.sl.HS1_1
/-- The weighted sums at the start. -/
abbrev start9 := arg13.view.writes (Elt Ideal) arg13.view.junk kernelRun0_A.sl.HS2_1

/-- The pieces the loop writes. -/
abbrev looped := pieces c i arg2 harg2 arg3 harg3 arg4 harg4 arg5 harg5 arg6 harg6 arg7 harg7 arg8 harg8 arg9 harg9 arg10 harg10 arg11 harg11 arg12 harg12 arg13 harg13
  (BitVec.ofNat 32 (i 1).val) (kernelRun0_A.sl.v31 i) x0 x1 x2
  (start7 arg11) (start8 arg12) (start9 arg13) (k0_t1_loop i).trips

/-- The maxima before the diagonal tile. -/
def M7 := arg11.view.writes (Elt Ideal) (start7 arg11) (looped c i arg2 harg2 arg3 harg3 arg4 harg4 arg5 harg5 arg6 harg6 arg7 harg7 arg8 harg8 arg9 harg9 arg10 harg10 arg11 harg11 arg12 harg12 arg13 harg13 x0 x1 x2).1
/-- The sums. -/
def M8 := arg12.view.writes (Elt Ideal) (start8 arg12) (looped c i arg2 harg2 arg3 harg3 arg4 harg4 arg5 harg5 arg6 harg6 arg7 harg7 arg8 harg8 arg9 harg9 arg10 harg10 arg11 harg11 arg12 harg12 arg13 harg13 x0 x1 x2).2.1
/-- The weighted sums. -/
def M9 := arg13.view.writes (Elt Ideal) (start9 arg13) (looped c i arg2 harg2 arg3 harg3 arg4 harg4 arg5 harg5 arg6 harg6 arg7 harg7 arg8 harg8 arg9 harg9 arg10 harg10 arg11 harg11 arg12 harg12 arg13 harg13 x0 x1 x2).2.2

theorem r_eq : kernelRun0_A.sl.r (F := Ideal) c arg2 harg2 x0 = k0_pay40 x0 := scaled_whole arg2 harg2 x0

/-- The second loop makes no trips, so it writes nothing. -/
theorem none_eq (a1 : BitVec 32) (v2 : IVec S1x128 1) (v5 : FVec Ideal S512x128 .bf16) (v19 : BitVec 32)
    (sl : FVec Ideal S1x1 .f32) (io : IVec S1x512 32) (c0 v31 c1 : BitVec 32)
    (X3 : BufTy.Contents (Elt Ideal) arg3.view.ty) (X4 : BufTy.Contents (Elt Ideal) arg4.view.ty)
    (f7 : BufTy.Contents (Elt Ideal) arg11.view.ty)
    (f8 : BufTy.Contents (Elt Ideal) arg12.view.ty) (f9 : BufTy.Contents (Elt Ideal) arg13.view.ty) :
    pb_k0_t2 (F := Ideal) Variants.none c none i arg2 harg2 arg3 harg3 arg4 harg4 arg5 harg5 arg6 harg6 arg7 harg7 arg8 harg8 arg9 harg9 arg10 harg10 arg11 harg11 arg12 harg12 arg13 harg13
      a1 v2 v5 v19 sl io c0 v31 c1 X3 X4 f7 f8 f9
      (Scf.trips (k0_t2_loop i).lb (k0_t2_loop i).ub (k0_t2_loop i).st) = ([], [], []) := by
  rw [show Scf.trips (k0_t2_loop i).lb (k0_t2_loop i).ub (k0_t2_loop i).st = 0 from empty_eq i]
  rfl

/-! ## What the diagonal tile reads back -/

theorem v59_eq : kernelRun0_A.sl.v59 (F := Ideal) c i arg2 harg2 arg3 harg3 arg4 harg4 arg5 harg5 arg6 harg6 arg7 harg7 arg8 harg8 arg9 harg9 arg10 harg10 arg11 harg11 arg12 harg12 arg13 harg13 x0 x1 x2 = (arg11.view.readAt (Elt Ideal) fst.toLoadRect (M7 c i arg2 harg2 arg3 harg3 arg4 harg4 arg5 harg5 arg6 harg6 arg7 harg7 arg8 harg8 arg9 harg9 arg10 harg10 arg11 harg11 arg12 harg12 arg13 harg13 x0 x1 x2)) := by
  unfold kernelRun0_A.sl.v59
  rw [none_eq, List.nil_append]
  unfold View.readCov M7
  rw [View.writes_append, r_eq]
  rfl

theorem v70_eq : kernelRun0_A.sl.v70 (F := Ideal) c i arg2 harg2 arg3 harg3 arg4 harg4 arg5 harg5 arg6 harg6 arg7 harg7 arg8 harg8 arg9 harg9 arg10 harg10 arg11 harg11 arg12 harg12 arg13 harg13 x0 x1 x2 = (arg12.view.readAt (Elt Ideal) fst.toLoadRect (M8 c i arg2 harg2 arg3 harg3 arg4 harg4 arg5 harg5 arg6 harg6 arg7 harg7 arg8 harg8 arg9 harg9 arg10 harg10 arg11 harg11 arg12 harg12 arg13 harg13 x0 x1 x2)) := by
  unfold kernelRun0_A.sl.v70
  rw [none_eq, List.nil_append]
  unfold View.readCov M8
  rw [View.writes_append, r_eq]
  rfl

theorem v116_eq : kernelRun0_A.sl.v116 (F := Ideal) c i arg2 harg2 arg3 harg3 arg4 harg4 arg5 harg5 arg6 harg6 arg7 harg7 arg8 harg8 arg9 harg9 arg10 harg10 arg11 harg11 arg12 harg12 arg13 harg13 x0 x1 x2 = (arg13.view.readAt (Elt Ideal) fst.toLoadRect (M9 c i arg2 harg2 arg3 harg3 arg4 harg4 arg5 harg5 arg6 harg6 arg7 harg7 arg8 harg8 arg9 harg9 arg10 harg10 arg11 harg11 arg12 harg12 arg13 harg13 x0 x1 x2)) := by
  unfold kernelRun0_A.sl.v116
  rw [none_eq, List.nil_append]
  unfold View.readCov M9
  rw [View.writes_append, r_eq]
  rfl

theorem v90_eq : kernelRun0_A.sl.v90 (F := Ideal) c i arg2 harg2 arg3 harg3 arg4 harg4 arg5 harg5 arg6 harg6 arg7 harg7 arg8 harg8 arg9 harg9 arg10 harg10 arg11 harg11 arg12 harg12 arg13 harg13 x0 x1 x2 = (arg11.view.readAt (Elt Ideal) snd.toLoadRect (M7 c i arg2 harg2 arg3 harg3 arg4 harg4 arg5 harg5 arg6 harg6 arg7 harg7 arg8 harg8 arg9 harg9 arg10 harg10 arg11 harg11 arg12 harg12 arg13 harg13 x0 x1 x2)) := by
  unfold kernelRun0_A.sl.v90 kernelRun0_A.sl.HS0_1_1
  rw [none_eq, List.nil_append]
  unfold View.readCov M7
  refine (read_snd _ _ _ _).trans ?_
  rw [View.writes_append, r_eq]
  rfl

theorem v101_eq : kernelRun0_A.sl.v101 (F := Ideal) c i arg2 harg2 arg3 harg3 arg4 harg4 arg5 harg5 arg6 harg6 arg7 harg7 arg8 harg8 arg9 harg9 arg10 harg10 arg11 harg11 arg12 harg12 arg13 harg13 x0 x1 x2 = (arg12.view.readAt (Elt Ideal) snd.toLoadRect (M8 c i arg2 harg2 arg3 harg3 arg4 harg4 arg5 harg5 arg6 harg6 arg7 harg7 arg8 harg8 arg9 harg9 arg10 harg10 arg11 harg11 arg12 harg12 arg13 harg13 x0 x1 x2)) := by
  unfold kernelRun0_A.sl.v101 kernelRun0_A.sl.HS1_1_1
  rw [none_eq, List.nil_append]
  unfold View.readCov M8
  refine (read_snd _ _ _ _).trans ?_
  rw [View.writes_append, r_eq]
  rfl

theorem v123_eq : kernelRun0_A.sl.v123 (F := Ideal) c i arg2 harg2 arg3 harg3 arg4 harg4 arg5 harg5 arg6 harg6 arg7 harg7 arg8 harg8 arg9 harg9 arg10 harg10 arg11 harg11 arg12 harg12 arg13 harg13 x0 x1 x2 = (arg13.view.readAt (Elt Ideal) snd.toLoadRect (M9 c i arg2 harg2 arg3 harg3 arg4 harg4 arg5 harg5 arg6 harg6 arg7 harg7 arg8 harg8 arg9 harg9 arg10 harg10 arg11 harg11 arg12 harg12 arg13 harg13 x0 x1 x2)) := by
  unfold kernelRun0_A.sl.v123 kernelRun0_A.sl.HS2_1_1
  rw [none_eq, List.nil_append]
  unfold View.readCov M9
  refine (read_snd _ _ _ _).trans ?_
  rw [View.writes_append, r_eq]
  rfl

theorem v151_eq : kernelRun0_A.sl.v151 (F := Ideal) c i arg2 harg2 arg3 harg3 arg4 harg4 arg5 harg5 arg6 harg6 arg7 harg7 arg8 harg8 arg9 harg9 arg10 harg10 arg11 harg11 arg12 harg12 arg13 harg13 x0 x1 x2 = nextSum (X0 i arg3 harg3 x0 x1)
    (arg11.view.readAt (Elt Ideal) fst.toLoadRect (M7 c i arg2 harg2 arg3 harg3 arg4 harg4 arg5 harg5 arg6 harg6 arg7 harg7 arg8 harg8 arg9 harg9 arg10 harg10 arg11 harg11 arg12 harg12 arg13 harg13 x0 x1 x2)) (arg12.view.readAt (Elt Ideal) fst.toLoadRect (M8 c i arg2 harg2 arg3 harg3 arg4 harg4 arg5 harg5 arg6 harg6 arg7 harg7 arg8 harg8 arg9 harg9 arg10 harg10 arg11 harg11 arg12 harg12 arg13 harg13 x0 x1 x2)) := by
  unfold kernelRun0_A.sl.v151 kernelRun0_A.sl.HS1_2 kernelRun0_A.sl.HS1_1_1 View.readCov
  refine (read_fst _ _ _ _).trans ((read_same _ _ _ _ _).trans ?_)
  unfold kernelRun0_A.sl.r_7 kernelRun0_A.sl.r_8
  rw [v59_eq, v70_eq, r_eq]
  rfl

theorem v156_eq : kernelRun0_A.sl.v156 (F := Ideal) c i arg2 harg2 arg3 harg3 arg4 harg4 arg5 harg5 arg6 harg6 arg7 harg7 arg8 harg8 arg9 harg9 arg10 harg10 arg11 harg11 arg12 harg12 arg13 harg13 x0 x1 x2 = nextSum (X1 i arg3 harg3 x0 x1)
    (arg11.view.readAt (Elt Ideal) snd.toLoadRect (M7 c i arg2 harg2 arg3 harg3 arg4 harg4 arg5 harg5 arg6 harg6 arg7 harg7 arg8 harg8 arg9 harg9 arg10 harg10 arg11 harg11 arg12 harg12 arg13 harg13 x0 x1 x2)) (arg12.view.readAt (Elt Ideal) snd.toLoadRect (M8 c i arg2 harg2 arg3 harg3 arg4 harg4 arg5 harg5 arg6 harg6 arg7 harg7 arg8 harg8 arg9 harg9 arg10 harg10 arg11 harg11 arg12 harg12 arg13 harg13 x0 x1 x2)) := by
  unfold kernelRun0_A.sl.v156 kernelRun0_A.sl.HS1_2 View.readCov
  refine (read_same _ _ _ _ _).trans ?_
  rw [v90_eq, v101_eq, r_eq]
  rfl

theorem v149_eq : kernelRun0_A.sl.v149 (F := Ideal) c i arg2 harg2 arg3 harg3 arg4 harg4 arg5 harg5 arg6 harg6 arg7 harg7 arg8 harg8 arg9 harg9 arg10 harg10 arg11 harg11 arg12 harg12 arg13 harg13 x0 x1 x2 = nextAcc (valueDiag i arg4 harg4 x2) (X0 i arg3 harg3 x0 x1)
    (arg11.view.readAt (Elt Ideal) fst.toLoadRect (M7 c i arg2 harg2 arg3 harg3 arg4 harg4 arg5 harg5 arg6 harg6 arg7 harg7 arg8 harg8 arg9 harg9 arg10 harg10 arg11 harg11 arg12 harg12 arg13 harg13 x0 x1 x2)) (arg13.view.readAt (Elt Ideal) fst.toLoadRect (M9 c i arg2 harg2 arg3 harg3 arg4 harg4 arg5 harg5 arg6 harg6 arg7 harg7 arg8 harg8 arg9 harg9 arg10 harg10 arg11 harg11 arg12 harg12 arg13 harg13 x0 x1 x2)) := by
  unfold kernelRun0_A.sl.v149 kernelRun0_A.sl.HS2_2 kernelRun0_A.sl.HS2_1_1 View.readCov
  refine (read_fst _ _ _ _).trans ((read_same _ _ _ _ _).trans ?_)
  unfold kernelRun0_A.sl.v122 kernelRun0_A.sl.v119 kernelRun0_A.sl.v118 kernelRun0_A.sl.v117
    kernelRun0_A.sl.r_5 kernelRun0_A.sl.r_9 kernelRun0_A.sl.r_6
  rw [v59_eq, v116_eq, r_eq]
  rfl

theorem v154_eq : kernelRun0_A.sl.v154 (F := Ideal) c i arg2 harg2 arg3 harg3 arg4 harg4 arg5 harg5 arg6 harg6 arg7 harg7 arg8 harg8 arg9 harg9 arg10 harg10 arg11 harg11 arg12 harg12 arg13 harg13 x0 x1 x2 = nextAcc (valueDiag i arg4 harg4 x2) (X1 i arg3 harg3 x0 x1)
    (arg11.view.readAt (Elt Ideal) snd.toLoadRect (M7 c i arg2 harg2 arg3 harg3 arg4 harg4 arg5 harg5 arg6 harg6 arg7 harg7 arg8 harg8 arg9 harg9 arg10 harg10 arg11 harg11 arg12 harg12 arg13 harg13 x0 x1 x2)) (arg13.view.readAt (Elt Ideal) snd.toLoadRect (M9 c i arg2 harg2 arg3 harg3 arg4 harg4 arg5 harg5 arg6 harg6 arg7 harg7 arg8 harg8 arg9 harg9 arg10 harg10 arg11 harg11 arg12 harg12 arg13 harg13 x0 x1 x2)) := by
  unfold kernelRun0_A.sl.v154 kernelRun0_A.sl.HS2_2 View.readCov
  refine (read_same _ _ _ _ _).trans ?_
  unfold kernelRun0_A.sl.v129 kernelRun0_A.sl.v126 kernelRun0_A.sl.v125 kernelRun0_A.sl.v124 kernelRun0_A.sl.v115
    kernelRun0_A.sl.v114 kernelRun0_A.sl.r_11 kernelRun0_A.sl.r_12
  rw [v90_eq, v123_eq, r_eq]
  rfl

/-! ## What is stored -/

/-- The lambda vectors and the gain are read whole. -/
theorem vec_whole (arg : Memref sig .tc .vmem S1x64 .f32) (harg : arg.IsWhole) (x : Vec Ideal S1x64 .f32) :
    arg.view.readAt (Elt Ideal) (Rect.unit (s := S1x64) ![0, 0] S1x64.size inb_S1x64_S1x64_0_0).toLoadRect (harg.unread x) = x := by
  rw [View.readAt_eq_ld, Memref.IsWhole.read_unread, View.ld_unit_lit]
  decide

theorem gain_whole : arg9.view.readAt (Elt Ideal) (Rect.unit (s := S1x128) ![0, 0] S1x128.size inb_S1x128_S1x128_0_0).toLoadRect
    (harg9.unread x7) = x7 := by
  rw [View.readAt_eq_ld, Memref.IsWhole.read_unread, View.ld_unit_lit]
  decide

theorem v137_eq : kernelRun0_A.sl.v137 (F := Ideal) c arg5 harg5 arg6 harg6 x3 x4 = k0_pay72 x3 x4 := by
  unfold kernelRun0_A.sl.v137 kernelRun0_A.sl.v136 kernelRun0_A.sl.v135 kernelRun0_A.sl.v134 kernelRun0_A.sl.v131
    kernelRun0_A.sl.v133
  rw [vec_whole, vec_whole]
  rfl

theorem v142_eq : kernelRun0_A.sl.v142 (F := Ideal) c arg7 harg7 arg8 harg8 x5 x6 = k0_pay73 x5 x6 := by
  unfold kernelRun0_A.sl.v142 kernelRun0_A.sl.v139 kernelRun0_A.sl.v141
  rw [vec_whole, vec_whole]
  rfl

theorem out_eq : out0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 = k0_pay74 (k0_pay72 x3 x4) (k0_pay73 x5 x6)
    (kernelRun0_A.sl.v149 c i arg2 harg2 arg3 harg3 arg4 harg4 arg5 harg5 arg6 harg6 arg7 harg7 arg8 harg8 arg9 harg9 arg10 harg10 arg11 harg11 arg12 harg12 arg13 harg13 x0 x1 x2)
    (kernelRun0_A.sl.v151 c i arg2 harg2 arg3 harg3 arg4 harg4 arg5 harg5 arg6 harg6 arg7 harg7 arg8 harg8 arg9 harg9 arg10 harg10 arg11 harg11 arg12 harg12 arg13 harg13 x0 x1 x2)
    (kernelRun0_A.sl.v154 c i arg2 harg2 arg3 harg3 arg4 harg4 arg5 harg5 arg6 harg6 arg7 harg7 arg8 harg8 arg9 harg9 arg10 harg10 arg11 harg11 arg12 harg12 arg13 harg13 x0 x1 x2)
    (kernelRun0_A.sl.v156 c i arg2 harg2 arg3 harg3 arg4 harg4 arg5 harg5 arg6 harg6 arg7 harg7 arg8 harg8 arg9 harg9 arg10 harg10 arg11 harg11 arg12 harg12 arg13 harg13 x0 x1 x2) x7 := by
  unfold out0_A_8
  rw [View.read_writes_junk_eq_canon]
  unfold kernelRun0_A
  dsimp only
  rw [View.canon_cons_unit_lit]
  · unfold kernelRun0_A.sl.r_13
    rw [v137_eq, v142_eq, gain_whole]
  · decide

/-! ## The value -/

/-- The weight of the second head and the normalised difference of the heads, at an index. -/
theorem end_eq (a0 l0 a1 l1 : Vec Ideal S1x512x128 .f32) (r : Fin 512) (d : Fin 128) :
    k0_pay74 (k0_pay72 x3 x4) (k0_pay73 x5 x6) a0 l0 a1 l1 x7 (ix2 r d)
      = Cert.DiffNorm.normed (fun y => Ideal.div (a0 (ix3 0 r y)) (l0 (ix3 0 r y))
          - Cert.DiffNorm.lam (fun x => x3 (ix2 0 x)) (fun x => x4 (ix2 0 x)) (fun x => x5 (ix2 0 x)) (fun x => x6 (ix2 0 x))
            * Ideal.div (a1 (ix3 0 r y)) (l1 (ix3 0 r y))) (fun y => x7 (ix2 0 y)) d := by
  pointwise [k0_pay72, k0_pay73, k0_pay74]
  rfl

variable {x0 x1 x2}
variable {q : Fin 512 → Fin 128 → ℝ} {k v : ℕ → Fin 128 → ℝ}

theorem keyDiag_eq (hb : Blocks x0 x1 x2 q k v) (j : Fin 512) (d : Fin 128) :
    keyDiag i arg3 harg3 x1 (ix2 j d) = (k (512 * (i 1).val + j.val) d : EReal) := by
  have hi : (i 1).val < 32 := (i 1).isLt
  refine (load2 harg3 x1 _ _ (ix2 ⟨512 * (i 1).val + j.val, by omega⟩ d) ?_).trans (hb.key _ _)
  funext a
  apply Fin.ext
  fin_cases a <;> simp [off3_eq]

theorem valueDiag_eq (hb : Blocks x0 x1 x2 q k v) (j : Fin 512) (d : Fin 128) :
    valueDiag i arg4 harg4 x2 (ix2 j d) = (v (512 * (i 1).val + j.val) d : EReal) := by
  have hi : (i 1).val < 32 := (i 1).isLt
  refine (load2 harg4 x2 _ _ (ix2 ⟨512 * (i 1).val + j.val, by omega⟩ d) ?_).trans (hb.value _ _)
  funext a
  apply Fin.ext
  fin_cases a <;> simp [off3_eq]

theorem biasDiag_eq : biasDiag i = bias (BitVec.ofNat 32 (512 * (i 1).val)) (BitVec.ofNat 32 (512 * (i 1).val)) (k0_pay44 i) places := by
  have hr : rowWord i = BitVec.ofNat 32 (512 * (i 1).val) := place_word _ (i 1).isLt
  unfold biasDiag
  rw [hr]

theorem tile0 (hb : Blocks x0 x1 x2 q k v) : IsTile (X0 i arg3 harg3 x0 x1) (row0 i q k) (512 * (i 1).val) := by
  have hi : (i 1).val < 32 := (i 1).isLt
  intro r j
  refine (onDiag_eq _ r j).trans ?_
  rw [biasDiag_eq, score0_real hb.query (slope_eq i) (keyDiag_eq i arg3 harg3 hb) (by omega) (by omega)]
  exact if_congr (by omega) rfl rfl

theorem tile1 (hb : Blocks x0 x1 x2 q k v) : IsTile (X1 i arg3 harg3 x0 x1) (row1 i q k) (512 * (i 1).val) := by
  have hi : (i 1).val < 32 := (i 1).isLt
  intro r j
  refine (onDiag_eq _ r j).trans ?_
  rw [biasDiag_eq, score1_real hb.query (slope_eq i) (keyDiag_eq i arg3 harg3 hb) (by omega) (by omega)]
  exact if_congr (by omega) rfl rfl

/-- A part of a buffer that was filled holds the filling. -/
theorem read_filled (w : View sig .tc .vmem S2x512x128 .f32) (f : w.ty.Contents (Elt Ideal)) (r : Rect S2x512x128)
    (p : Vec Ideal S2x512x128 .f32) (y : r.shape.Idx) :
    w.readAt (Elt Ideal) r.toLoadRect (w.writes (Elt Ideal) f
      [⟨Rect.unit ![0, 0, 0] S2x512x128.size inb_S2x512x128_S2x512x128_0_0_0, p⟩]) y = p (r.idx y) := by
  refine View.read_writes_cons_unit_of_mem w f _ p [] (r.idx y) (r.idx y) rfl fun a => ?_
  fin_cases a <;> simp

theorem started : Holds arg11.view arg12.view arg13.view (start7 arg11) (start8 arg12) (start9 arg13)
    (row0 i q k) (row1 i q k) (vals v) 0 := by
  refine ⟨fun r l => ?_, fun r l => ?_, fun r l => ?_, fun r l => ?_, fun r d => ?_, fun r d => ?_⟩
  · rw [top_zero]; exact (read_filled _ _ _ _ _).trans named_mask
  · rw [top_zero]; exact (read_filled _ _ _ _ _).trans named_mask
  · rw [den_zero]; exact (read_filled _ _ _ _ _).trans (Ideal.ofBits_zero_f32)
  · rw [den_zero]; exact (read_filled _ _ _ _ _).trans (Ideal.ofBits_zero_f32)
  · rw [num_zero]; exact (read_filled _ _ _ _ _).trans (Ideal.ofBits_zero_f32)
  · rw [num_zero]; exact (read_filled _ _ _ _ _).trans (Ideal.ofBits_zero_f32)

theorem held (hb : Blocks x0 x1 x2 q k v) :
    Holds arg11.view arg12.view arg13.view (M7 c i arg2 harg2 arg3 harg3 arg4 harg4 arg5 harg5 arg6 harg6 arg7 harg7 arg8 harg8 arg9 harg9 arg10 harg10 arg11 harg11 arg12 harg12 arg13 harg13 x0 x1 x2)
      (M8 c i arg2 harg2 arg3 harg3 arg4 harg4 arg5 harg5 arg6 harg6 arg7 harg7 arg8 harg8 arg9 harg9 arg10 harg10 arg11 harg11 arg12 harg12 arg13 harg13 x0 x1 x2)
      (M9 c i arg2 harg2 arg3 harg3 arg4 harg4 arg5 harg5 arg6 harg6 arg7 harg7 arg8 harg8 arg9 harg9 arg10 harg10 arg11 harg11 arg12 harg12 arg13 harg13 x0 x1 x2)
      (row0 i q k) (row1 i q k) (vals v) (512 * (i 1).val) := by
  have h := loop c i arg2 harg2 arg3 harg3 arg4 harg4 arg5 harg5 arg6 harg6 arg7 harg7 arg8 harg8 arg9 harg9 arg10 harg10 arg11 harg11 arg12 harg12 arg13 harg13
    (BitVec.ofNat 32 (i 1).val) (kernelRun0_A.sl.v31 i) hb (start7 arg11) (start8 arg12) (start9 arg13)
    (started i arg11 arg12 arg13) (k0_t1_loop i).trips le_rfl
  unfold M7 M8 M9
  have e : 512 * (k0_t1_loop i).trips = 512 * (i 1).val := by rw [trips_eq i]
  rw [e] at h
  exact h

/-- A head's softmax average of the values, as a real number; `col` is the head's columns. -/
def average (i : grid0.Coords) (col : Fin 64 → Fin 128) (q : Fin 512 → Fin 128 → ℝ) (k v : ℕ → Fin 128 → ℝ) (r : Fin 512)
    (d : Fin 128) : ℝ :=
  ∑ j ∈ Finset.range 16384, soft (score col q k (slope (i 0).val) (512 * (i 1).val) r) (512 * (i 1).val + r.val) j * v j d

/-- The block a grid point leaves: the difference of the two heads' averages, normalised. -/
theorem out_real (hb : Blocks x0 x1 x2 q k v) (r : Fin 512) (d : Fin 128) :
    out0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 (ix2 r d)
      = Cert.DiffNorm.normed (fun y => (average i lo q k v r y : EReal)
          - Cert.DiffNorm.lam (fun x => x3 (ix2 0 x)) (fun x => x4 (ix2 0 x)) (fun x => x5 (ix2 0 x)) (fun x => x6 (ix2 0 x))
            * (average i hi q k v r y : EReal)) (fun y => x7 (ix2 0 y)) d := by
  have hi : (i 1).val < 32 := (i 1).isLt
  have hM := held c i arg2 harg2 arg3 harg3 arg4 harg4 arg5 harg5 arg6 harg6 arg7 harg7 arg8 harg8 arg9 harg9 arg10 harg10 arg11 harg11 arg12 harg12 arg13 harg13 hb
  rw [out_eq, end_eq, v149_eq, v151_eq, v154_eq, v156_eq]
  refine congrArg (fun f => Cert.DiffNorm.normed f _ d) (funext fun y => ?_)
  rw [nextAcc_eq (v := vals v) (tile0 i arg3 harg3 hb) hM.max0 (valueDiag_eq i arg4 harg4 hb) hM.acc0,
    nextAcc_eq (v := vals v) (tile1 i arg3 harg3 hb) hM.max1 (valueDiag_eq i arg4 harg4 hb) hM.acc1,
    nextSum_eq (tile0 i arg3 harg3 hb) hM.max0 hM.sum0 r y,
    nextSum_eq (tile1 i arg3 harg3 hb) hM.max1 hM.sum1 r y]
  refine congrArg₂ (· - ·) ?_ (congrArg₂ (· * ·) rfl ?_)
  · exact ratio_masked _ _ (by omega) (by omega)
  · exact ratio_masked _ _ (by omega) (by omega)

end Point

end Cert.DiffIdeal.Attn
-- ==== Proof.DiffRef.lean ====
/- The differential attention's reference at the extended reals: the difference of the two heads' softmax averages over the
   real numbers, normalised, the projections and the vectors of the second head's weight being real. -/
module

public import proofs.«01_k».proof.Proof.Gen.DiffRefIdeal.Run
public import proofs.«01_k».proof.Proof.FoxRef
public import proofs.«01_k».proof.Proof.DiffNorm

@[expose] public section

set_option maxRecDepth 16384

noncomputable section

open Idealize.ShloMosaic Idealize.ShloMosaic.TcCoe Idealize.SL.Sem

namespace Cert.DiffRefIdeal.Stages

open Cert.DiffRefIdeal Cert.DiffRefIdeal.Gen Cert.Online
open Cert.FoxRefIdeal.Stages (minus_infinity eighth fold_sup sum_range coe_sum sum_real sup_range)
open Cert.DiffNorm (normed lam)

/-! ## The stages -/

/-- The attention's columns of the packed projections. -/
def packed (A : FVec Ideal S16384x3072 .bf16) : FVec Ideal S16384x1536 .f32 :=
  extf .f32 (extractStridedSlice S16384x1536 ![0, 1536] A slices_S16384x3072_S16384x1536_0_1536) bitsLt_bf16_f32

/-- One array per head of each pair. -/
def pairs (X : FVec Ideal S16384x512 .f32) : FVec Ideal S4x2x16384x64 .f32 :=
  transpose S4x2x16384x64 [1, 2, 0, 3] (shapeCast _ X shapeCasts_S16384x512_S16384x4x2x64) transposes_S16384x4x2x64_S4x2x16384x64_1_2_0_3

def queries (A : FVec Ideal S16384x3072 .bf16) : FVec Ideal S4x2x16384x64 .f32 :=
  pairs (extractStridedSlice S16384x512 ![0, 0] (packed A) slices_S16384x1536_S16384x512_0_0)
def keys (A : FVec Ideal S16384x3072 .bf16) : FVec Ideal S4x2x16384x64 .f32 :=
  pairs (extractStridedSlice S16384x512 ![0, 512] (packed A) slices_S16384x1536_S16384x512_0_512)

/-- The values that the two heads of a pair share. -/
def values (A : FVec Ideal S16384x3072 .bf16) : FVec Ideal S4x16384x128 .f32 :=
  transpose S4x16384x128 [1, 0, 2] (shapeCast _ (extractStridedSlice S16384x512 ![0, 1024] (packed A)
    slices_S16384x1536_S16384x512_0_1024) shapeCasts_S16384x512_S16384x4x128) transposes_S16384x4x128_S4x16384x128_1_0_2

/-- The sum of the products of two vectors. -/
def dot (a b : FVec Ideal S1x64 .f32) : FVec Ideal S_ .f32 :=
  Host.reduceAdd (mulf (shapeCast _ a shapeCasts_S1x64_S64) (shapeCast _ b shapeCasts_S1x64_S64)) (constant S_ .f32 0x00000000#32)
    reducesTo_S64_S_d0 h_S_

/-- The weight of the second head. -/
def weight (a b c d : FVec Ideal S1x64 .f32) : FVec Ideal S_ .f32 :=
  addf (subf (Host.exp (dot a b)) (Host.exp (dot c d))) (constant S_ .f32 0x3E4CCCCD#32)

/-- The slope of each pair's position bias. -/
def slopes : FVec Ideal S4 .f32 :=
  Host.powf (broadcastInDim S4 ![] bcast_S_S4 (constant S_ .f32 0x40000000#32))
    (Host.divf (mulf (broadcastInDim S4 ![] bcast_S_S4 (constant S_ .f32 0xC1000000#32))
        (sitofp .f32 (addi (broadcastInDim S4 ![] bcast_S_S4 (constantI S_ 32 1#32)) (iotaInDim S4 32 0))))
      (broadcastInDim S4 ![] bcast_S_S4 (constant S_ .f32 0x40800000#32)))

/-- The distance from each key to each query. -/
def distances : FVec Ideal S16384x16384 .f32 :=
  sitofp .f32 (subi (broadcastInDim S16384x16384 ![0, 1] bcast_S16384x1_S16384x16384_0_1
      (broadcastInDim S16384x1 ![0] bcast_S16384_S16384x1_0 (iotaInDim S16384 32 0)))
    (broadcastInDim S16384x16384 ![0, 1] bcast_S1x16384_S16384x16384_0_1
      (broadcastInDim S1x16384 ![1] bcast_S16384_S1x16384_1 (iotaInDim S16384 32 0))))

/-- The scores, before the mask. -/
def scores (q k : FVec Ideal S4x2x16384x64 .f32) (w : FVec Ideal S4 .f32) (D : FVec Ideal S16384x16384 .f32) :
    FVec Ideal S4x2x16384x16384 .f32 :=
  subf (mulf (Host.dotGeneral dot_S4x2x16384x64_S4x2x16384x64_S4x2x16384x16384_3_3_2_2_01_01 none q k)
      (broadcastInDim S4x2x16384x16384 ![] bcast_S_S4x2x16384x16384 (constant S_ .f32 0x3E000000#32)))
    (broadcastInDim S4x2x16384x16384 ![0, 1, 2, 3] bcast_S4x1x16384x16384_S4x2x16384x16384_0_1_2_3
      (mulf (broadcastInDim S4x1x16384x16384 ![0, 1, 2, 3] bcast_S4x1x1x1_S4x1x16384x16384_0_1_2_3
          (broadcastInDim S4x1x1x1 ![0] bcast_S4_S4x1x1x1_0 w))
        (broadcastInDim S4x1x16384x16384 ![0, 1, 2, 3] bcast_S1x1x16384x16384_S4x1x16384x16384_0_1_2_3
          (broadcastInDim S1x1x16384x16384 ![2, 3] bcast_S16384x16384_S1x1x16384x16384_2_3 D))))

/-- The causal mask. -/
def causal (X : FVec Ideal S4x2x16384x16384 .f32) : FVec Ideal S4x2x16384x16384 .f32 :=
  select (broadcastInDim S4x2x16384x16384 ![2, 3] bcast_S16384x16384_S4x2x16384x16384_2_3
      (cmpi .sle (broadcastInDim S16384x16384 ![0, 1] bcast_S1x16384_S16384x16384_0_1
          (broadcastInDim S1x16384 ![1] bcast_S16384_S1x16384_1 (iotaInDim S16384 32 0)))
        (broadcastInDim S16384x16384 ![0, 1] bcast_S16384x1_S16384x16384_0_1
          (broadcastInDim S16384x1 ![0] bcast_S16384_S16384x1_0 (iotaInDim S16384 32 0)))))
    X (broadcastInDim S4x2x16384x16384 ![] bcast_S_S4x2x16384x16384 (id (constant S_ .f32 0xFF800000#32)))

/-- The largest score of each row. -/
def peaks (X : FVec Ideal S4x2x16384x16384 .f32) : FVec Ideal S4x2x16384 .f32 :=
  maximumf (broadcastInDim S4x2x16384 ![] bcast_S_S4x2x16384 (constant S_ .f32 0xFF800000#32))
    (Host.reduce FloatOps.maximumf X (constant S_ .f32 0xFF800000#32) reducesTo_S4x2x16384x16384_S4x2x16384_d3 h_S_)

/-- One number per row, along the row. -/
def along (m : FVec Ideal S4x2x16384 .f32) : FVec Ideal S4x2x16384x16384 .f32 :=
  broadcastInDim S4x2x16384x16384 ![0, 1, 2, 3] bcast_S4x2x16384x1_S4x2x16384x16384_0_1_2_3
    (broadcastInDim S4x2x16384x1 ![0, 1, 2] bcast_S4x2x16384_S4x2x16384x1_0_1_2 m)

/-- The exponentials of a row's scores under its largest. -/
def powers (X : FVec Ideal S4x2x16384x16384 .f32) : FVec Ideal S4x2x16384x16384 .f32 := Host.exp (subf X (along (peaks X)))

/-- The softmax of each row. -/
def weights (X : FVec Ideal S4x2x16384x16384 .f32) : FVec Ideal S4x2x16384x16384 .f32 :=
  Host.divf (powers X) (along (Host.reduceAdd (powers X) (constant S_ .f32 0x00000000#32)
    reducesTo_S4x2x16384x16384_S4x2x16384_d3 h_S_))

/-- The first head's weights less the second's. -/
def less (P : FVec Ideal S4x2x16384x16384 .f32) (l : FVec Ideal S_ .f32) : FVec Ideal S4x16384x16384 .f32 :=
  subf (shapeCast _ (extractStridedSlice S4x1x16384x16384 ![0, 0, 0, 0] P slices_S4x2x16384x16384_S4x1x16384x16384_0_0_0_0)
      shapeCasts_S4x1x16384x16384_S4x16384x16384)
    (mulf (broadcastInDim S4x16384x16384 ![] bcast_S_S4x16384x16384 l)
      (shapeCast _ (extractStridedSlice S4x1x16384x16384 ![0, 1, 0, 0] P slices_S4x2x16384x16384_S4x1x16384x16384_0_1_0_0)
        shapeCasts_S4x1x16384x16384_S4x16384x16384))

/-- The weighted values. -/
def mix (w : FVec Ideal S4x16384x16384 .f32) (v : FVec Ideal S4x16384x128 .f32) : FVec Ideal S4x16384x128 .f32 :=
  Host.dotGeneral dot_S4x16384x16384_S4x16384x128_S4x16384x128_2_1_1_2_0_0 none w v

/-- The normalisation of each row. -/
def scaled (X : FVec Ideal S4x16384x128 .f32) (G : FVec Ideal S1x128 .f32) : FVec Ideal S4x16384x128 .f32 :=
  mulf (mulf (mulf X (broadcastInDim S4x16384x128 ![0, 1, 2] bcast_S4x16384x1_S4x16384x128_0_1_2
      (Host.rsqrt (addf (Host.divf (broadcastInDim S4x16384x1 ![0, 1] bcast_S4x16384_S4x16384x1_0_1
            (Host.reduceAdd (mulf X X) (constant S_ .f32 0x00000000#32) reducesTo_S4x16384x128_S4x16384_d2 h_S_))
          (broadcastInDim S4x16384x1 ![] bcast_S_S4x16384x1 (constant S_ .f32 0x43000000#32)))
        (broadcastInDim S4x16384x1 ![] bcast_S_S4x16384x1 (constant S_ .f32 0x358637BD#32))))))
      (broadcastInDim S4x16384x128 ![0, 1, 2] bcast_S1x1x128_S4x16384x128_0_1_2
        (broadcastInDim S1x1x128 ![2] bcast_S128_S1x1x128_2 (shapeCast _ G shapeCasts_S1x128_S128))))
    (broadcastInDim S4x16384x128 ![] bcast_S_S4x16384x128 (constant S_ .f32 0x3F4CCCCD#32))

/-- The heads side by side. -/
def sides (X : FVec Ideal S4x16384x128 .f32) : FVec Ideal S16384x512 .bf16 :=
  truncf .bf16 (shapeCast _ (transpose S16384x4x128 [1, 0, 2] X transposes_S4x16384x128_S16384x4x128_1_0_2)
    shapeCasts_S16384x4x128_S16384x512) bitsLt_bf16_f32

/-- The whole of it. -/
def attend (A : FVec Ideal S16384x3072 .bf16) (a b c d : FVec Ideal S1x64 .f32) (G : FVec Ideal S1x128 .f32) :
    FVec Ideal S16384x512 .bf16 :=
  sides (scaled (mix (less (weights (causal (scores (queries A) (keys A) slopes distances))) (weight a b c d)) (values A)) G)

/-- The reference's result is its stages one after the other. -/
theorem res_attend (m : (ℓ : Loc nD τ sig) → Buf (Elt Ideal) ℓ) (c : Dev nD) :
    Value.res_out0 m c = attend (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

/-! ## Each at an index -/

theorem queries_eq (A : FVec Ideal S16384x3072 .bf16) (h : Fin 4) (e : Fin 2) (t : Fin 16384) (d : Fin 64) :
    queries A (ix4 h e t d) = A (ix2 t ⟨1536 + (h.val * 128 + e.val * 64 + d.val), by omega⟩) := by
  pointwise [queries, pairs, packed]

theorem keys_eq (A : FVec Ideal S16384x3072 .bf16) (h : Fin 4) (e : Fin 2) (t : Fin 16384) (d : Fin 64) :
    keys A (ix4 h e t d) = A (ix2 t ⟨1536 + (512 + (h.val * 128 + e.val * 64 + d.val)), by omega⟩) := by
  pointwise [keys, pairs, packed]

theorem values_eq (A : FVec Ideal S16384x3072 .bf16) (h : Fin 4) (t : Fin 16384) (d : Fin 128) :
    values A (ix3 h t d) = A (ix2 t ⟨1536 + (1024 + (h.val * 128 + d.val)), by omega⟩) := by
  pointwise [values, packed]

theorem weight_eq (a b c d : FVec Ideal S1x64 .f32) :
    weight a b c d ix0 = lam (fun x => a (ix2 0 x)) (fun x => b (ix2 0 x)) (fun x => c (ix2 0 x)) (fun x => d (ix2 0 x)) := by
  pointwise [weight, dot]
  rfl

theorem two : Ideal.ofBits FTy.f32 0x40000000#32 = ((2 : ℝ) : EReal) := by
  simp [Ideal.ofBits, Ideal.ieee]
  rw [← EReal.coe_mul]
  norm_num

theorem four : Ideal.ofBits FTy.f32 0x40800000#32 = ((4 : ℝ) : EReal) := by
  simp [Ideal.ofBits, Ideal.ieee]
  rw [← EReal.coe_mul]
  norm_num

theorem minus_eight : Ideal.ofBits FTy.f32 0xC1000000#32 = ((-8 : ℝ) : EReal) := by
  simp [Ideal.ofBits, Ideal.ieee]
  rw [← EReal.coe_mul]
  norm_num

theorem head_word (n : ℕ) (h : n < 4) : (IntOp.addi 1#32 (BitVec.ofNat 32 n)).toInt = (n : ℤ) + 1 := by
  interval_cases n <;> decide

theorem slopes_eq (h : Fin 4) : slopes (ix1 h) = (Real.rpow 2 (-8 * ((h.val : ℝ) + 1) / 4) : EReal) := by
  pointwise [slopes]
  rw [minus_eight, two, four]
  have e := head_word h.val h.isLt
  refine (congrArg (fun n : ℤ => Ideal.pow ((2 : ℝ) : EReal) (Ideal.div (((-8 : ℝ) : EReal) * ((n : ℝ) : EReal)) ((4 : ℝ) : EReal))) e).trans ?_
  rw [← EReal.coe_mul, Ideal.div_coe (by norm_num), ← EReal.coe_mul, Ideal.pow_coe_coe]
  refine congrArg Real.toEReal (congrArg (Real.rpow 2) ?_)
  push_cast
  ring

theorem word_distance (a b : ℕ) (ha : a < 16384) (hb : b < 16384) :
    (IntOp.subi (BitVec.ofNat 32 a) (BitVec.ofNat 32 b)).toInt = (a : ℤ) - b := by
  show (BitVec.ofNat 32 a - BitVec.ofNat 32 b).toInt = _
  rw [BitVec.toInt_eq_toNat_cond, BitVec.toNat_sub, BitVec.toNat_ofNat, BitVec.toNat_ofNat]
  split_ifs <;> omega

theorem distances_eq (t j : Fin 16384) : distances (ix2 t j) = (((t.val : ℝ) - (j.val : ℝ) : ℝ) : EReal) := by
  pointwise [distances]
  refine (congrArg (fun n : ℤ => ((n : ℝ) : EReal)) (word_distance t.val j.val t.isLt j.isLt)).trans ?_
  refine congrArg Real.toEReal ?_
  push_cast
  rfl

theorem scores_eq (q k : FVec Ideal S4x2x16384x64 .f32) (w : FVec Ideal S4 .f32) (D : FVec Ideal S16384x16384 .f32) (h : Fin 4)
    (e : Fin 2) (t j : Fin 16384) :
    scores q k w D (ix4 h e t j) = (∑ x : Fin 64, q (ix4 h e t x) * k (ix4 h e j x)) * ((1 / 8 : ℝ) : EReal)
      - w (ix1 h) * D (ix2 t j) := by
  pointwise [scores]
  rw [eighth]

theorem causal_eq (X : FVec Ideal S4x2x16384x16384 .f32) (h : Fin 4) (e : Fin 2) (t j : Fin 16384) :
    causal X (ix4 h e t j) = if j.val ≤ t.val then X (ix4 h e t j) else ⊥ := by
  pointwise [causal]
  rw [WordCmp.cmpi_sle_ofNat (w := 32) (a := j.val) (b := t.val) (by omega) (by omega)]
  by_cases hd : j.val ≤ t.val <;> simp [hd, Scalar.select]
  exact minus_infinity

/-- The maximum over the last axis, at any sizes. -/
theorem last_max {a b d n : ℕ} (X : FVec Ideal ⟨4, ![a, b, d, n]⟩ .f32) (c : FVec Ideal S_ .f32)
    (hr : (⟨4, ![a, b, d, n]⟩ : Shape).ReducesTo [3] ⟨3, ![a, b, d]⟩) (hu : 0 < S_.numel) (i : Fin a) (e : Fin b) (t : Fin d) :
    Host.reduce FloatOps.maximumf X c hr hu (ix3 i e t)
      = Finset.univ.fold max (c (Shape.Idx.first hu) : EReal) fun j : Fin n => (X (ix4 i e t j) : EReal) := by
  pointwise

theorem max_infinity (Y : FVec Ideal S4x2x16384 .f32) (h : Fin 4) (e : Fin 2) (t : Fin 16384) :
    maximumf (broadcastInDim S4x2x16384 ![] bcast_S_S4x2x16384 (constant S_ .f32 0xFF800000#32)) Y (ix3 h e t)
      = max (⊥ : EReal) (Y (ix3 h e t)) := by
  pointwise
  rw [minus_infinity]

theorem peaks_eq (X : FVec Ideal S4x2x16384x16384 .f32) (h : Fin 4) (e : Fin 2) (t : Fin 16384) :
    peaks X (ix3 h e t) = Finset.univ.sup fun j : Fin 16384 => (X (ix4 h e t j) : EReal) := by
  have l := last_max X (constant S_ .f32 0xFF800000#32) reducesTo_S4x2x16384x16384_S4x2x16384_d3 h_S_ h e t
  rw [show (constant (F := Ideal) S_ .f32 0xFF800000#32 (Shape.Idx.first h_S_) : EReal) = ⊥ from minus_infinity] at l
  unfold peaks
  rw [max_infinity, l, fold_sup]

theorem weights_eq (X : FVec Ideal S4x2x16384x16384 .f32) (h : Fin 4) (e : Fin 2) (t j : Fin 16384) :
    weights X (ix4 h e t j) = Ideal.div (Ideal.exp (X (ix4 h e t j) - peaks X (ix3 h e t)))
      (∑ i : Fin 16384, Ideal.exp (X (ix4 h e t i) - peaks X (ix3 h e t))) := by
  unfold weights powers
  generalize peaks X = P
  pointwise [along]

theorem less_eq (P : FVec Ideal S4x2x16384x16384 .f32) (l : FVec Ideal S_ .f32) (h : Fin 4) (t j : Fin 16384) :
    less P l (ix3 h t j) = P (ix4 h 0 t j) - l ix0 * P (ix4 h 1 t j) := by
  pointwise [less]

theorem mix_eq (w : FVec Ideal S4x16384x16384 .f32) (v : FVec Ideal S4x16384x128 .f32) (h : Fin 4) (t : Fin 16384) (d : Fin 128) :
    mix w v (ix3 h t d) = ∑ j : Fin 16384, w (ix3 h t j) * v (ix3 h j d) := by
  pointwise [mix]

theorem scaled_eq (X : FVec Ideal S4x16384x128 .f32) (G : FVec Ideal S1x128 .f32) (h : Fin 4) (t : Fin 16384) (d : Fin 128) :
    scaled X G (ix3 h t d) = normed (fun y => X (ix3 h t y)) (fun y => G (ix2 0 y)) d := by
  pointwise [scaled]
  rfl

theorem sides_eq (X : FVec Ideal S4x16384x128 .f32) (t : Fin 16384) (d : Fin 512) :
    sides X (ix2 t d) = X (ix3 ⟨d.val / 128, by omega⟩ t ⟨d.val % 128, by omega⟩) := by
  pointwise [sides]

/-! ## Over the real numbers -/

/-- A row whose scores are the masked real numbers `x` has their softmax for weights. -/
theorem weights_real (X : FVec Ideal S4x2x16384x16384 .f32) (h : Fin 4) (e : Fin 2) (t : Fin 16384) (x : ℕ → ℝ)
    (hX : ∀ j : Fin 16384, X (ix4 h e t j) = masked x t.val j.val) (j : Fin 16384) :
    weights X (ix4 h e t j) = (soft x t.val j.val : EReal) := by
  have hp : peaks X (ix3 h e t) = top (masked x t.val) 16384 := by
    rw [peaks_eq, ← sup_range]
    exact Finset.sup_congr rfl fun i _ => hX i
  rw [weights_eq, hp, hX j]
  have hs : (∑ i : Fin 16384, Ideal.exp (X (ix4 h e t i) - top (masked x t.val) 16384) : EReal)
      = den (masked x t.val) 16384 (top (masked x t.val) 16384) := by
    unfold den
    rw [← sum_range]
    exact Finset.sum_congr rfl fun i _ => by rw [hX i]
  rw [hs]
  exact weight_masked x t.isLt j.val

/-- The score of query `t` and key `j` of the head whose columns start at `o`, its position bias of slope `w`: `a` is the
    packed projections. -/
def score (a : ℕ → ℕ → ℝ) (w : ℝ) (o t j : ℕ) : ℝ :=
  (∑ x : Fin 64, a t (1536 + (o + x.val)) * a j (1536 + (512 + (o + x.val)))) * (1 / 8) - w * ((t : ℝ) - (j : ℝ))

/-- The slope of pair `n`. -/
def slope (n : ℕ) : ℝ := Real.rpow 2 (-8 * ((n : ℝ) + 1) / 4)

section Rows

variable (A : FVec Ideal S16384x3072 .bf16) (a : ℕ → ℕ → ℝ)
  (hA : ∀ (t : Fin 16384) (d : Fin 3072), A (ix2 t d) = (a t.val d.val : EReal))

include hA in
theorem head_real (h : Fin 4) (e : Fin 2) (t j : Fin 16384) :
    weights (causal (scores (queries A) (keys A) slopes distances)) (ix4 h e t j)
      = (soft (score a (slope h.val) (h.val * 128 + e.val * 64) t.val) t.val j.val : EReal) := by
  refine weights_real _ _ _ t _ (fun i => ?_) j
  refine (causal_eq _ _ _ t i).trans ?_
  unfold masked
  refine if_congr Iff.rfl ((scores_eq _ _ _ _ _ _ t i).trans ?_) rfl
  rw [slopes_eq, distances_eq, ← EReal.coe_mul]
  unfold score slope
  refine Eq.trans (congrArg₂ (· - ·) ?_ rfl) (EReal.coe_sub _ _).symm
  rw [EReal.coe_mul, ← coe_sum]
  refine congrArg₂ (· * ·) (Finset.sum_congr rfl fun x _ => ?_) rfl
  rw [queries_eq, keys_eq, hA, hA, EReal.coe_mul]

/-- A head's softmax average of the values. -/
def average (a : ℕ → ℕ → ℝ) (h e t y : ℕ) : ℝ :=
  ∑ j ∈ Finset.range 16384, soft (score a (slope h) (h * 128 + e * 64) t) t j * a j (1536 + (1024 + (h * 128 + y)))

include hA in
theorem mix_real (l : FVec Ideal S_ .f32) (L : ℝ) (hl : l ix0 = (L : EReal)) (h : Fin 4) (t : Fin 16384) (y : Fin 128) :
    mix (less (weights (causal (scores (queries A) (keys A) slopes distances))) l) (values A) (ix3 h t y)
      = ((average a h.val 0 t.val y.val - L * average a h.val 1 t.val y.val : ℝ) : EReal) := by
  refine (mix_eq _ _ h t y).trans ((sum_real _ (fun j =>
    (soft (score a (slope h.val) (h.val * 128 + 0 * 64) t.val) t.val j
      - L * soft (score a (slope h.val) (h.val * 128 + 1 * 64) t.val) t.val j) * a j (1536 + (1024 + (h.val * 128 + y.val))))
    fun j => ?_).trans ?_)
  · rw [EReal.coe_mul, EReal.coe_sub, EReal.coe_mul]
    refine congrArg₂ (· * ·) ((less_eq _ _ h t j).trans ?_) ?_
    · refine congrArg₂ (· - ·) (head_real A a hA h 0 t j) (congrArg₂ (· * ·) hl (head_real A a hA h 1 t j))
    · rw [values_eq, hA]
  · refine congrArg Real.toEReal ?_
    unfold average
    rw [Finset.mul_sum, ← Finset.sum_sub_distrib]
    exact Finset.sum_congr rfl fun j _ => by ring

include hA in
/-- The reference's output: each pair's difference of softmax averages, normalised. -/
theorem attend_real (b c d e : FVec Ideal S1x64 .f32) (G : FVec Ideal S1x128 .f32) (L : ℝ)
    (hL : lam (fun x => b (ix2 0 x)) (fun x => c (ix2 0 x)) (fun x => d (ix2 0 x)) (fun x => e (ix2 0 x)) = (L : EReal))
    (t : Fin 16384) (n : Fin 512) :
    attend A b c d e G (ix2 t n) = normed (fun y => ((average a (n.val / 128) 0 t.val y.val
      - L * average a (n.val / 128) 1 t.val y.val : ℝ) : EReal)) (fun y => G (ix2 0 y)) ⟨n.val % 128, by omega⟩ := by
  unfold attend
  refine (sides_eq _ t n).trans ((scaled_eq _ _ _ t _).trans ?_)
  refine congrArg (fun f => normed f _ _) (funext fun y => ?_)
  exact mix_real A a hA _ L ((weight_eq b c d e).trans hL) _ t y

end Rows

end Cert.DiffRefIdeal.Stages

end
-- ==== Proof.DiffValue.lean ====
/- The differential attention's kernel at the extended reals: what it leaves in its result array is the reference's value. -/
module

public import proofs.«01_k».proof.Proof.Gen.DiffIdeal.Value
public import proofs.«01_k».proof.Proof.DiffPoint
public import proofs.«01_k».proof.Proof.DiffRef

@[expose] public section

set_option maxRecDepth 16384

noncomputable section

open Idealize.ShloMosaic Idealize.ShloMosaic.TcCoe Idealize.SL.Sem
open Idealize.ShloMosaic.Pipeline (Dat)

namespace Cert.DiffIdeal.Attn

open Cert.DiffIdeal Cert.DiffIdeal.Gen Cert.Online
open Cert.FoxIdeal.Attn (lo hi)

variable (m : (ℓ : Loc nD τ sig) → Buf (Elt Ideal) ℓ)

/-- Which block of its array each window stages at a grid point, and the point's coordinates. -/
theorem idx_val : ∀ t : Fin cfg0.N, win0_0.index t = ![t.val % 32, 12 + t.val / 32] ∧ win0_1.index t = ![0, 16 + t.val / 32]
    ∧ win0_2.index t = ![0, 20 + t.val / 32] ∧ win0_3.index t = ![0, 0] ∧ win0_4.index t = ![0, 0] ∧ win0_5.index t = ![0, 0]
    ∧ win0_6.index t = ![0, 0] ∧ win0_7.index t = ![0, 0] ∧ win0_8.index t = ![t.val % 32, t.val / 32]
    ∧ (grid0.coords t 0).val = t.val / 32 ∧ (grid0.coords t 1).val = t.val % 32 :=
  (by decide +kernel : ∀ t : Fin grid0.N, _)

theorem lt_points (t : Fin cfg0.N) : t.val < 128 := t.isLt

section Vectors

variable (c : Dev nD) (t : Fin cfg0.N) (x : Fin 64)

/-- Every grid point reads the whole of the four vectors and of the gain. -/
theorem vector1 : iblk m c 3 t (ix2 0 x) = (m ((c : Thread nD τ).loc main_arg1) : FVec Ideal S1x64 .f32) (ix2 0 x) := by
  blk_point [iblk, V, idx_val t]

theorem vector2 : iblk m c 4 t (ix2 0 x) = (m ((c : Thread nD τ).loc main_arg2) : FVec Ideal S1x64 .f32) (ix2 0 x) := by
  blk_point [iblk, V, idx_val t]

theorem vector3 : iblk m c 5 t (ix2 0 x) = (m ((c : Thread nD τ).loc main_arg3) : FVec Ideal S1x64 .f32) (ix2 0 x) := by
  blk_point [iblk, V, idx_val t]

theorem vector4 : iblk m c 6 t (ix2 0 x) = (m ((c : Thread nD τ).loc main_arg4) : FVec Ideal S1x64 .f32) (ix2 0 x) := by
  blk_point [iblk, V, idx_val t]

theorem gain (y : Fin 128) : iblk m c 7 t (ix2 0 y) = (m ((c : Thread nD τ).loc main_arg5) : FVec Ideal S1x128 .f32) (ix2 0 y) := by
  blk_point [iblk, V, idx_val t]

end Vectors

/-- The kernel's slope is the reference's. -/
theorem slope_same (n : ℕ) : slope n = Cert.DiffRefIdeal.Stages.slope n := by
  unfold slope Cert.DiffRefIdeal.Stages.slope
  refine congrArg (Real.rpow 2) ?_
  ring

section Block

variable (c : Dev nD) (a : ℕ → ℕ → ℝ)
  (hA : ∀ (r : Fin 16384) (d : Fin 3072), (m ((c : Thread nD τ).loc main_arg0) : FVec Ideal S16384x3072 .bf16) (ix2 r d) = (a r.val d.val : EReal))

include hA in
/-- The blocks of a grid point hold the real numbers of the projections. -/
theorem blocks (t : Fin cfg0.N) : Blocks (iblk m c 0 t) (iblk m c 1 t) (iblk m c 2 t)
    (fun r d => a (512 * (t.val % 32) + r.val) (1536 + (128 * (t.val / 32) + d.val)))
    (fun j d => a j (2048 + (128 * (t.val / 32) + d.val))) (fun j d => a j (2560 + (128 * (t.val / 32) + d.val))) where
  query r d := by
    have ht := lt_points t
    refine Eq.trans ?_ (hA ⟨512 * (t.val % 32) + r.val, by omega⟩ ⟨1536 + (128 * (t.val / 32) + d.val), by omega⟩)
    blk_point [iblk, V, idx_val t]
  key j d := by
    have ht := lt_points t
    refine Eq.trans ?_ (hA j ⟨2048 + (128 * (t.val / 32) + d.val), by omega⟩)
    blk_point [iblk, V, idx_val t]
  value j d := by
    have ht := lt_points t
    refine Eq.trans ?_ (hA j ⟨2560 + (128 * (t.val / 32) + d.val), by omega⟩)
    blk_point [iblk, V, idx_val t]

/-- A head's average at a grid point is the reference's at the point's rows; `e` is the head of the pair. -/
theorem average_same (t : Fin cfg0.N) (col : Fin 64 → Fin 128) (e : ℕ) (hc : ∀ x, (col x).val = e * 64 + x.val) (r : Fin 512)
    (y : Fin 128) :
    average (grid0.coords t) col (fun r d => a (512 * (t.val % 32) + r.val) (1536 + (128 * (t.val / 32) + d.val)))
      (fun j d => a j (2048 + (128 * (t.val / 32) + d.val))) (fun j d => a j (2560 + (128 * (t.val / 32) + d.val))) r y
      = Cert.DiffRefIdeal.Stages.average a (t.val / 32) e (512 * (t.val % 32) + r.val) y.val := by
  unfold average Cert.DiffRefIdeal.Stages.average
  rw [(idx_val t).2.2.2.2.2.2.2.2.2.1, (idx_val t).2.2.2.2.2.2.2.2.2.2, slope_same]
  generalize Cert.DiffRefIdeal.Stages.slope (t.val / 32) = w
  refine Finset.sum_congr rfl fun j _ => congrArg₂ (· * ·) ?_ (congrArg (a j) (by omega))
  refine soft_shift _ _ (w * (r.val : ℝ)) _ (fun i _ => ?_) j
  unfold score Cert.DiffRefIdeal.Stages.score
  have e1 : (∑ x : Fin 64, a (512 * (t.val % 32) + r.val) (1536 + (128 * (t.val / 32) + (col x).val)) * (1 / 8)
        * a i (2048 + (128 * (t.val / 32) + (col x).val)))
      = ∑ x : Fin 64, a (512 * (t.val % 32) + r.val) (1536 + (t.val / 32 * 128 + e * 64 + x.val))
        * a i (1536 + (512 + (t.val / 32 * 128 + e * 64 + x.val))) * (1 / 8) := by
    refine Finset.sum_congr rfl fun x _ => ?_
    rw [hc x, show 1536 + (128 * (t.val / 32) + (e * 64 + x.val)) = 1536 + (t.val / 32 * 128 + e * 64 + x.val) by omega,
      show 2048 + (128 * (t.val / 32) + (e * 64 + x.val)) = 1536 + (512 + (t.val / 32 * 128 + e * 64 + x.val)) by omega]
    ring
  rw [e1, Finset.sum_mul]
  push_cast
  ring

variable (L : ℝ)
  (hL : Cert.DiffNorm.lam (fun x => (m ((c : Thread nD τ).loc main_arg1) : FVec Ideal S1x64 .f32) (ix2 0 x))
    (fun x => (m ((c : Thread nD τ).loc main_arg2) : FVec Ideal S1x64 .f32) (ix2 0 x))
    (fun x => (m ((c : Thread nD τ).loc main_arg3) : FVec Ideal S1x64 .f32) (ix2 0 x))
    (fun x => (m ((c : Thread nD τ).loc main_arg4) : FVec Ideal S1x64 .f32) (ix2 0 x)) = (L : EReal))

/-- The reference's value of the launch's arguments. -/
abbrev wanted : FVec Ideal S16384x512 .bf16 :=
  Cert.DiffRefIdeal.Stages.attend (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

include hA hL in
/-- What a grid point leaves in its block is the reference's value at the block's rows and columns. -/
theorem point (t : Fin cfg0.N) (y : S512x128.Idx) (j : S16384x512.Idx) (h0 : (j 0 : ℕ) = t.val % 32 * 512 + y 0)
    (h1 : (j 1 : ℕ) = t.val / 32 * 128 + y 1) : outsAt0 m c t y = wanted m c j := by
  obtain ⟨r, d, rfl⟩ : ∃ (r : Fin 512) (d : Fin 128), y = ix2 r d := ⟨y 0, y 1, by funext x; fin_cases x <;> rfl⟩
  obtain ⟨T, D, rfl⟩ : ∃ (T : Fin 16384) (D : Fin 512), j = ix2 T D := ⟨j 0, j 1, by funext x; fin_cases x <;> rfl⟩
  replace h0 : T.val = 512 * (t.val % 32) + r.val := h0.trans (congrArg (· + _) (Nat.mul_comm _ _))
  replace h1 : D.val = 128 * (t.val / 32) + d.val := h1.trans (congrArg (· + _) (Nat.mul_comm _ _))
  have ht := lt_points t
  have hd := d.isLt
  unfold wanted
  rw [Cert.DiffRefIdeal.Stages.attend_real _ a hA _ _ _ _ _ L hL T D]
  unfold outsAt0
  rw [out_real c (grid0.coords t) _ _ _ _ _ _ _ _ _ _ _ _ _ _ _ _ _ _ _ _ _ _ _ _ _ _ _ _ _ (blocks m c a hA t) r d]
  simp only [vector1, vector2, vector3, vector4, gain]
  have e1 : D.val / 128 = t.val / 32 := by omega
  have e2 : (⟨D.val % 128, by omega⟩ : Fin 128) = d := Fin.ext (by dsimp only; omega)
  rw [e2, e1, h0]
  refine congrArg (fun f => Cert.DiffNorm.normed f _ d) (funext fun z => ?_)
  rw [average_same a t lo 0 (fun x => by simp [lo]) r z, average_same a t hi 1 (fun x => by simp [hi]) r z]
  refine Eq.trans ?_ (EReal.coe_sub _ _).symm
  refine congrArg₂ (· - ·) rfl (Eq.trans ?_ (EReal.coe_mul _ _).symm)
  exact congrArg₂ (· * ·) hL rfl

include hA hL in
/-- What the kernel leaves in its result array is the reference's value of the launch's arguments. -/
theorem final : (dats m 0 c).arrAt 8 (cfgs 0).N = wanted m c := by
  refine (dats m 0 c).arrAt_eq_of_covers 8 _ (by decide +kernel) fun t _ y => ?_
  blk_simp
  rw [after0_8]
  exact point m c a hA L hL t y _ (by blk_simp [idx_val t]) (by blk_simp [idx_val t])

end Block

end Cert.DiffIdeal.Attn

end
-- ==== Proof.DiffClaims.lean ====
/- The claims about the differential attention: the three programs run without a fault and keep their arguments, and at the
   extended reals, on real projections and real vectors of the second head's weight, the kernel's result is the reference's. -/
module

public import proofs.«01_k».proof.Defs
public import proofs.«01_k».proof.Proof.Gen.Diff.Frame
public import proofs.«01_k».proof.Proof.DiffValue
public import proofs.«01_k».proof.Proof.Finite
public import Idealize.ShloMosaic.Lib.Claim

@[expose] public section

set_option maxRecDepth 16384

noncomputable section

namespace Cert.Proof

open Idealize.ShloMosaic Idealize.ShloMosaic.TcCoe Idealize.SL.Sem

theorem frame_diff : Cert.quiescent_Diff (hDiff := Cert.Diff.Gen.facts) := fun m ρ _ => Cert.Diff.Gen.frame m ρ

theorem frame_diff_ideal : Cert.quiescent_DiffIdeal (hDiffIdeal := Cert.DiffIdeal.Gen.facts) :=
  fun m ρ _ => Cert.DiffIdeal.Gen.frame m ρ

theorem frame_diff_ideal_finite : Cert.quiescent_DiffIdeal_pre_finite2 (hDiffIdeal := Cert.DiffIdeal.Gen.facts)
    (hPre_finite2 := Cert.Finite.facts2) := fun m ρ _ => Cert.DiffIdeal.Gen.frame m ρ

theorem frame_diff_reference : Cert.quiescent_DiffRefIdeal (hDiffRefIdeal := Cert.DiffRefIdeal.Gen.facts) :=
  fun m ρ _ => (θ_run Cert.DiffRefIdeal.defs _ _).mono
    (fun r h => ⟨fun c => (h c).2, Idealize.ShloMosaic.sem_eq_zero_of_no_sems (by decide) r.2⟩)
    (Cert.DiffRefIdeal.Value.run (F := Ideal) m ρ)

theorem frame_diff_reference_finite : Cert.quiescent_DiffRefIdeal_pre_finite2 (hDiffRefIdeal := Cert.DiffRefIdeal.Gen.facts)
    (hPre_finite2 := Cert.Finite.facts2) := fun m ρ _ => frame_diff_reference m ρ trivial

theorem preserves_diff : Cert.preserves_Diff_DiffIdeal :=
  IdealRules.named_const.statement Cert.DiffIdeal.κ "mask" .f32 0xF149F2CA#32 ⊥ rfl

/-- The weight of the second head is a real number when its four vectors hold real numbers. -/
theorem lam_exists (a b c d : (⟨2, ![1, 64]⟩ : Shape).Idx → EReal) (ha : ∀ i, a i = (((a i).toReal : ℝ) : EReal))
    (hb : ∀ i, b i = (((b i).toReal : ℝ) : EReal)) (hc : ∀ i, c i = (((c i).toReal : ℝ) : EReal))
    (hd : ∀ i, d i = (((d i).toReal : ℝ) : EReal)) :
    ∃ L : ℝ, Cert.DiffNorm.lam (fun x => a (ix2 0 x)) (fun x => b (ix2 0 x)) (fun x => c (ix2 0 x)) (fun x => d (ix2 0 x))
      = (L : EReal) := by
  refine ⟨_, Eq.trans ?_ (Cert.DiffNorm.lam_real (fun x => (a (ix2 0 x)).toReal) (fun x => (b (ix2 0 x)).toReal)
    (fun x => (c (ix2 0 x)).toReal) (fun x => (d (ix2 0 x)).toReal))⟩
  rw [funext fun x => ha (ix2 0 x), funext fun x => hb (ix2 0 x), funext fun x => hc (ix2 0 x), funext fun x => hd (ix2 0 x)]

theorem algebraic_diff : Cert.algebraic_DiffIdeal_DiffRefIdeal_pre_finite2 (hDiffIdeal := Cert.DiffIdeal.Gen.facts)
    (hDiffRefIdeal := Cert.DiffRefIdeal.Gen.facts) (hPre_finite2 := Cert.Finite.facts2) := by
  intro m g m' g' hpre hagree
  refine ⟨fun c => Cert.DiffIdeal.Attn.wanted m c,
    (θ_run Cert.DiffIdeal.defs _ _).mono (fun r h c => ⟨(h c).1.trans ?_, (h c).2⟩) (Cert.DiffIdeal.Value.run_blocks (F := Ideal) m g),
    (θ_run Cert.DiffRefIdeal.defs _ _).mono (fun r h c => ⟨(h c).1.trans ?_, (h c).2⟩) (Cert.DiffRefIdeal.Value.run (F := Ideal) m' g')⟩
  · obtain ⟨hA, h1, h2, h3, h4⟩ := Cert.Finite.finite2_real _ _ _ _ _ _ (hpre c)
    obtain ⟨L, hL⟩ := lam_exists _ _ _ _ h1 h2 h3 h4
    exact Cert.DiffIdeal.Attn.final m c _ (Cert.Finite.entry_eq _ hA) L hL
  · refine (Cert.DiffRefIdeal.Stages.res_attend m' c).trans ?_
    obtain ⟨e0, e1, e2, e3, e4, e5⟩ := hagree c
    rw [e0, e1, e2, e3, e4, e5]

end Cert.Proof

end
-- ==== Proof.FfnValue.lean ====
/- The output projection, the feed-forward part and the last norm at the extended reals: what the kernel leaves in its
   result array is the reference's value of the same arguments, row block by row block. -/
module

public import proofs.«01_k».proof.Proof.Gen.FfnIdeal.Value
public import proofs.«01_k».proof.Proof.Gen.FfnRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnRefIdeal.Stages

open Cert.FfnRefIdeal Cert.FfnRefIdeal.Gen

/-- The residual stream after the output projection of the two attentions' outputs side by side. -/
def resid (X : FVec Ideal S1x16384x1024 .f32) (A B : FVec Ideal S16384x512 .bf16) (W : FVec Ideal S1x1024x1024 .f32) :
    FVec Ideal S16384x1024 .f32 :=
  addf (shapeCast _ X shapeCasts_S1x16384x1024_S16384x1024)
    (Host.dotGeneral dot_S16384x1024_S1024x1024_S16384x1024_1_0_0_1_n_n none
      (extf .f32 (concatenate S16384x1024 1 [⟨S16384x512, A⟩, ⟨S16384x512, B⟩]
        concatenates_S16384x512_S16384x512_S16384x1024_d1) bitsLt_bf16_f32)
      (shapeCast _ W shapeCasts_S1x1024x1024_S1024x1024))

/-- The root-mean-square norm of every row, with its gain. -/
def normed (Y : FVec Ideal S16384x1024 .f32) (g : FVec Ideal S1024 .f32) : FVec Ideal S16384x1024 .f32 :=
  mulf (mulf Y (broadcastInDim S16384x1024 ![0, 1] bcast_S16384x1_S16384x1024_0_1 (Host.rsqrt (addf (Host.divf
      (broadcastInDim S16384x1 ![0] bcast_S16384_S16384x1_0
        (Host.reduceAdd (mulf Y Y) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1
      (broadcastInDim S1x1024 ![1] bcast_S1024_S1x1024_1 g))

/-- The gated hidden layer: `silu` of the gate projection times the up projection. -/
def gated (H : FVec Ideal S16384x1024 .f32) (Wg Wu : FVec Ideal S1x1024x2816 .f32) : FVec Ideal S16384x2816 .f32 :=
  mulf (mulf
      (Host.dotGeneral dot_S16384x1024_S1024x2816_S16384x2816_1_0_0_1_n_n none H
        (shapeCast _ Wg shapeCasts_S1x1024x2816_S1024x2816))
      (Host.divf (broadcastInDim S16384x2816 ![] bcast_S_S16384x2816 (constant S_ .f32 0x3F800000#32))
        (addf (broadcastInDim S16384x2816 ![] bcast_S_S16384x2816 (constant S_ .f32 0x3F800000#32))
          (Host.exp (Host.negf (Host.dotGeneral dot_S16384x1024_S1024x2816_S16384x2816_1_0_0_1_n_n none H
            (shapeCast _ Wg shapeCasts_S1x1024x2816_S1024x2816)))))))
    (Host.dotGeneral dot_S16384x1024_S1024x2816_S16384x2816_1_0_0_1_n_n none H
      (shapeCast _ Wu shapeCasts_S1x1024x2816_S1024x2816))

/-- The residual stream after the down projection. -/
def down (Y : FVec Ideal S16384x1024 .f32) (H : FVec Ideal S16384x2816 .f32) (W : FVec Ideal S1x2816x1024 .f32) :
    FVec Ideal S16384x1024 .f32 :=
  addf Y (Host.dotGeneral dot_S16384x2816_S2816x1024_S16384x1024_1_0_0_1_n_n none H
    (shapeCast _ W shapeCasts_S1x2816x1024_S2816x1024))

/-- The reference's result is its stages one after the other. -/
theorem res_stages (m : (ℓ : Loc nD τ sig) → Buf (Elt Ideal) ℓ) (c : Dev nD) :
    Value.res_out0 m c =
      normed (down
        (resid (m ((c.tc : Thread nD τ).loc main_arg0)) (m ((c.tc : Thread nD τ).loc main_arg1))
          (m ((c.tc : Thread nD τ).loc main_arg2)) (m ((c.tc : Thread nD τ).loc main_arg3)))
        (gated (normed
          (resid (m ((c.tc : Thread nD τ).loc main_arg0)) (m ((c.tc : Thread nD τ).loc main_arg1))
            (m ((c.tc : Thread nD τ).loc main_arg2)) (m ((c.tc : Thread nD τ).loc main_arg3)))
          (shapeCast _ (m ((c.tc : Thread nD τ).loc main_arg4)) shapeCasts_S1x1024_S1024))
          (m ((c.tc : Thread nD τ).loc main_arg5)) (m ((c.tc : Thread nD τ).loc main_arg6)))
        (m ((c.tc : Thread nD τ).loc main_arg7))) (m ((c.tc : Thread nD τ).loc main_arg8)) := rfl

end Cert.FfnRefIdeal.Stages

namespace Cert.FfnIdeal.Rows

open Cert.FfnIdeal Cert.FfnIdeal.Gen Cert.FfnRefIdeal.Stages

variable (m : (ℓ : Loc nD τ sig) → Buf (Elt Ideal) ℓ)

/-- Which block of its array each window stages at a grid point: the point's row block, or the whole array. -/
theorem idx_val : ∀ t : Fin cfg0.N, win0_0.index t = ![t.val, 0] ∧ win0_1.index t = ![t.val, 0]
    ∧ win0_2.index t = ![t.val, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val, 0] :=
  (by decide +kernel : ∀ t : Fin grid0.N, _)

/-- The residual stream of the launch's arguments. -/
abbrev residOf (c : Dev nD) : FVec Ideal Cert.FfnRefIdeal.S16384x1024 .f32 :=
  resid (m ((c : Thread nD τ).loc main_arg0)) (m ((c : Thread nD τ).loc main_arg1)) (m ((c : Thread nD τ).loc main_arg2))
    (m ((c : Thread nD τ).loc main_arg3))

/-- The gated hidden layer of the launch's arguments. -/
abbrev gatedOf (c : Dev nD) : FVec Ideal Cert.FfnRefIdeal.S16384x2816 .f32 :=
  gated (normed (residOf m c) (shapeCast _ (show FVec Ideal Cert.FfnRefIdeal.S1x1024 .f32 from m ((c : Thread nD τ).loc main_arg4)) Cert.FfnRefIdeal.Gen.shapeCasts_S1x1024_S1024))
    (m ((c : Thread nD τ).loc main_arg5)) (m ((c : Thread nD τ).loc main_arg6))

/-- The kernel's residual rows at a grid point are rows of the reference's residual stream. -/
theorem resid_row (c : Dev nD) (t : Fin cfg0.N) (i : S512x1024.Idx) (j : Cert.FfnRefIdeal.S16384x1024.Idx)
    (h0 : (j 0 : ℕ) = t.val * 512 + i 0) (h1 : (j 1 : ℕ) = i 1) :
    k0_pay2 (F := Ideal) (iblk m c 0 t) (iblk m c 1 t) (View.ld (iblk m c 3 t) r0_2) (iblk m c 2 t)
      (View.ld (iblk m c 3 t) r0_3) i = residOf m c j := by
  pointwise [k0_pay2, residOf, resid]
  rw [add_assoc]
  blk_point [iblk, V, idx_val t]

/-- The logistic function is the reference's quotient. -/
theorem logistic_eq (x : EReal) : Ideal.logistic x = Ideal.div 1 (1 + Ideal.exp (-x)) := rfl

/-- The kernel's gated hidden rows at a grid point are rows of the reference's gated hidden layer. -/
theorem gated_row (c : Dev nD) (t : Fin cfg0.N) (i : S512x2816.Idx) (j : Cert.FfnRefIdeal.S16384x2816.Idx)
    (h0 : (j 0 : ℕ) = t.val * 512 + i 0) (h1 : (j 1 : ℕ) = i 1) :
    k0_pay3 (F := Ideal) (iblk m c 0 t) (iblk m c 1 t) (View.ld (iblk m c 3 t) r0_2) (iblk m c 2 t)
      (View.ld (iblk m c 3 t) r0_3) (iblk m c 4 t) (iblk m c 5 t) (iblk m c 6 t) i = gatedOf m c j := by
  have key : ∀ x : Fin 1024, k0_pay2 (F := Ideal) (iblk m c 0 t) (iblk m c 1 t) (View.ld (iblk m c 3 t) r0_2) (iblk m c 2 t)
      (View.ld (iblk m c 3 t) r0_3) (ix2 (i 0) x) = residOf m c (ix2 (j 0) x) :=
    fun x => resid_row m c t _ _ h0 rfl
  pointwise [k0_pay3, gatedOf, gated, normed]
  simp only [key, logistic_eq]
  blk_point [iblk, V, idx_val t]

/-- What a grid point stores is the reference's value at the rows of its block. -/
theorem point (c : Dev nD) (t : Fin cfg0.N) (y : S512x1024.Idx) (j : Cert.FfnRefIdeal.S16384x1024.Idx)
    (h0 : (j 0 : ℕ) = t.val * 512 + y 0) (h1 : (j 1 : ℕ) = y 1) :
    k0_pay1 (F := Ideal)
      (k0_pay2 (iblk m c 0 t) (iblk m c 1 t) (View.ld (iblk m c 3 t) r0_2) (iblk m c 2 t) (View.ld (iblk m c 3 t) r0_3))
      (k0_pay3 (iblk m c 0 t) (iblk m c 1 t) (View.ld (iblk m c 3 t) r0_2) (iblk m c 2 t) (View.ld (iblk m c 3 t) r0_3)
        (iblk m c 4 t) (iblk m c 5 t) (iblk m c 6 t)) (iblk m c 7 t) (iblk m c 8 t) y
    = normed (down (residOf m c) (gatedOf m c) (m ((c : Thread nD τ).loc main_arg7))) (m ((c : Thread nD τ).loc main_arg8)) j := by
  have key : ∀ x : Fin 1024, k0_pay2 (F := Ideal) (iblk m c 0 t) (iblk m c 1 t) (View.ld (iblk m c 3 t) r0_2)
      (iblk m c 2 t) (View.ld (iblk m c 3 t) r0_3) (ix2 (y 0) x) = residOf m c (ix2 (j 0) x) :=
    fun x => resid_row m c t _ _ h0 rfl
  have key' : ∀ x : Fin 2816, k0_pay3 (F := Ideal) (iblk m c 0 t) (iblk m c 1 t) (View.ld (iblk m c 3 t) r0_2)
      (iblk m c 2 t) (View.ld (iblk m c 3 t) r0_3) (iblk m c 4 t) (iblk m c 5 t) (iblk m c 6 t) (ix2 (y 0) x)
      = gatedOf m c (ix2 (j 0) x) :=
    fun x => gated_row m c t _ _ h0 rfl
  have key2 := resid_row m c t y j h0 h1
  pointwise [k0_pay1, normed, down]
  simp only [key, key', key2]
  blk_point [iblk, V, idx_val t]

/-- What the kernel leaves in its result array is the reference's value of the launch's arguments. -/
theorem final (c : Dev nD) : (dats m 0 c).arrAt 9 (cfgs 0).N
    = normed (down (residOf m c) (gatedOf m c) (m ((c : Thread nD τ).loc main_arg7))) (m ((c : Thread nD τ).loc main_arg8)) := by
  refine (dats m 0 c).arrAt_eq_of_covers 9 _ (by decide +kernel) fun t _ y => ?_
  blk_simp
  rw [after0_9]; frame_out
  exact point m c t y _ (by blk_simp [idx_val t]) (by blk_simp [idx_val t])

end Cert.FfnIdeal.Rows

end
-- ==== Proof.FfnClaims.lean ====
/- The claims about the output projection, the feed-forward part and the last norm: the three programs run without a
   fault and keep their arguments, and at the extended reals the kernel's result is the reference's. -/
module

public import proofs.«01_k».proof.Defs
public import proofs.«01_k».proof.Proof.Gen.Ffn.Frame
public import proofs.«01_k».proof.Proof.FfnValue
public import Idealize.ShloMosaic.Lib.Claim

@[expose] public section

set_option maxRecDepth 16384

noncomputable section

namespace Cert.Proof

open Idealize.ShloMosaic Idealize.ShloMosaic.TcCoe Idealize.SL.Sem

theorem frame_ffn : Cert.quiescent_Ffn (hFfn := Cert.Ffn.Gen.facts) := fun m ρ _ => Cert.Ffn.Gen.frame m ρ

theorem frame_ffn_ideal : Cert.quiescent_FfnIdeal (hFfnIdeal := Cert.FfnIdeal.Gen.facts) :=
  fun m ρ _ => Cert.FfnIdeal.Gen.frame m ρ

theorem frame_ffn_reference : Cert.quiescent_FfnRefIdeal (hFfnRefIdeal := Cert.FfnRefIdeal.Gen.facts) :=
  fun m ρ _ => (θ_run Cert.FfnRefIdeal.defs _ _).mono
    (fun r h => ⟨fun c => (h c).2, Idealize.ShloMosaic.sem_eq_zero_of_no_sems (by decide) r.2⟩)
    (Cert.FfnRefIdeal.Value.run (F := Ideal) m ρ)

theorem preserves_ffn : Cert.preserves_Ffn_FfnIdeal := trivial

theorem algebraic_ffn : Cert.algebraic_FfnIdeal_FfnRefIdeal (hFfnIdeal := Cert.FfnIdeal.Gen.facts)
    (hFfnRefIdeal := Cert.FfnRefIdeal.Gen.facts) := by
  pair_intro
  · run_from Cert.FfnIdeal.Gen.run_main m g
  · run_from Cert.FfnRefIdeal.Value.run m' g'
    rw [Cert.FfnIdeal.Rows.final m c]
    refine (Cert.FfnRefIdeal.Stages.res_stages m' c).trans ?_
    obtain ⟨h0, h1, h2, h3, h4, h5, h6, h7, h8⟩ := hagree c
    rw [h0, h1, h2, h3, h4, h5, h6, h7, h8]

end Cert.Proof

end
-- ==== Proof.Gate.lean ====
/- The forget gate's logarithm at the extended reals, the running sum of it down a column, and the split of one number
   into three parts that the kernel's summation by matrix product rests on. -/
module

public import Idealize.ShloMosaic.Lib.Pipeline.ValueKit
public import Mathlib.Data.EReal.Operations

@[expose] public section

noncomputable section

open Idealize.ShloMosaic

namespace Cert.Gate

/-- `log (sigmoid z)` as the kernel takes it. -/
def logSigmoid (z : EReal) : EReal := min z 0 - Ideal.log1p (Ideal.exp (0 - max z (-z)))

theorem log1p_zero : Ideal.log1p 0 = 0 := by
  rw [Ideal.log1p, add_zero, ← EReal.coe_one, Ideal.log_coe, if_neg (by norm_num), Real.log_one, EReal.coe_zero]

theorem coe_max (a b : ℝ) : ((max a b : ℝ) : EReal) = max (a : EReal) b := EReal.coe_strictMono.monotone.map_max

theorem coe_min (a b : ℝ) : ((min a b : ℝ) : EReal) = min (a : EReal) b := EReal.coe_strictMono.monotone.map_min

theorem logSigmoid_bot : logSigmoid ⊥ = ⊥ := by
  simp [logSigmoid, log1p_zero]

theorem logSigmoid_top : logSigmoid ⊤ = 0 := by
  simp [logSigmoid, log1p_zero]

/-- On a real it is the real function. -/
theorem logSigmoid_coe (r : ℝ) : logSigmoid r = ((min r 0 - Real.log (1 + Real.exp (-|r|)) : ℝ) : EReal) := by
  have h : (0 : EReal) - max (r : EReal) (-(r : EReal)) = ((-|r| : ℝ) : EReal) := by
    rw [abs_eq_max_neg, EReal.coe_neg, coe_max, EReal.coe_neg, zero_sub]
  have hp : ¬ (1 + Real.exp (-|r|)) ≤ 0 := not_le.2 (by positivity)
  have hl : Ideal.log1p (Ideal.exp ((-|r| : ℝ) : EReal)) = ((Real.log (1 + Real.exp (-|r|)) : ℝ) : EReal) := by
    rw [Ideal.exp_coe, Ideal.log1p, ← EReal.coe_one, ← EReal.coe_add, Ideal.log_coe, if_neg hp]
  rw [logSigmoid, h, hl, EReal.coe_sub, coe_min, EReal.coe_zero]

/-- It is never `⊤`. -/
theorem logSigmoid_ne_top (z : EReal) : logSigmoid z ≠ ⊤ := by
  induction z using EReal.rec with
  | bot => rw [logSigmoid_bot]; exact bot_ne_top
  | top => rw [logSigmoid_top]; exact EReal.zero_ne_top
  | coe r => rw [logSigmoid_coe]; exact EReal.coe_ne_top _

/-- The reference's form: minus the stable `log (exp (-z) + exp 0)`. -/
theorem neg_softplus (z : EReal) :
    -(max (-z) 0 + Ideal.log1p (Ideal.exp (-(max (-z) (-(-z)))))) = logSigmoid z := by
  rw [neg_neg, max_comm (-z) z]
  induction z using EReal.rec with
  | bot => rw [logSigmoid_bot]; simp [log1p_zero]
  | top => rw [logSigmoid_top]; simp [log1p_zero]
  | coe r =>
    have h : -(max (r : EReal) (-(r : EReal))) = ((-|r| : ℝ) : EReal) := by
      rw [abs_eq_max_neg, EReal.coe_neg, coe_max, EReal.coe_neg]
    have hp : ¬ (1 + Real.exp (-|r|)) ≤ 0 := not_le.2 (by positivity)
    have hl : Ideal.log1p (Ideal.exp ((-|r| : ℝ) : EReal)) = ((Real.log (1 + Real.exp (-|r|)) : ℝ) : EReal) := by
      rw [Ideal.exp_coe, Ideal.log1p, ← EReal.coe_one, ← EReal.coe_add, Ideal.log_coe, if_neg hp]
    have hm : max (-(r : EReal)) 0 = ((-(min r 0) : ℝ) : EReal) := by
      rw [← max_neg_neg, neg_zero, coe_max, EReal.coe_neg, EReal.coe_zero]
    rw [h, hl, hm, logSigmoid_coe, ← EReal.coe_add, ← EReal.coe_neg]
    exact congrArg Real.toEReal (by ring)

/-- A number that isn't `⊤` is the sum of its leading part, of what that leaves and of what both leave, when the leading
    parts are taken exactly. -/
theorem three_parts {x : EReal} (hx : x ≠ ⊤) : x + (x - x) + ((x - x) - (x - x)) = x := by
  induction x using EReal.rec with
  | bot => simp
  | top => exact absurd rfl hx
  | coe r => simp only [← EReal.coe_sub, ← EReal.coe_add]; exact congrArg Real.toEReal (by ring)

/-- The three products with a 0/1 matrix add up to the sum of the chosen entries. -/
theorem masked_sum {n : ℕ} (f : ℕ → EReal) (c : ℕ) (hc : c < n) (hf : ∀ k, f k ≠ ⊤) :
    ((∑ k : Fin n, f k * (if k.val ≤ c then (1 : EReal) else 0))
      + ∑ k : Fin n, (f k - f k) * (if k.val ≤ c then (1 : EReal) else 0))
      + ∑ k : Fin n, ((f k - f k) - (f k - f k)) * (if k.val ≤ c then (1 : EReal) else 0)
    = ∑ k ∈ Finset.range (c + 1), f k := by
  rw [← Finset.sum_add_distrib, ← Finset.sum_add_distrib]
  have h : ∀ k : Fin n, (f k * (if k.val ≤ c then (1 : EReal) else 0) + (f k - f k) * (if k.val ≤ c then (1 : EReal) else 0))
      + ((f k - f k) - (f k - f k)) * (if k.val ≤ c then (1 : EReal) else 0) = if k.val ≤ c then f k else 0 := by
    intro k
    split
    · simp only [mul_one]; exact three_parts (hf k)
    · simp only [mul_zero, add_zero]
  rw [Finset.sum_congr rfl fun k _ => h k, Fin.sum_univ_eq_sum_range (fun k => if k ≤ c then f k else 0) n,
    ← Finset.sum_filter]
  refine Finset.sum_congr (Finset.ext fun k => ?_) fun _ _ => rfl
  simp only [Finset.mem_filter, Finset.mem_range]
  omega

/-- A left fold of additions from zero over a list of all indices is the sum. -/
theorem foldl_sum {n : ℕ} (g : Fin n → EReal) : (List.finRange n).foldl (fun r k => r + g k) 0 = ∑ k, g k := by
  rw [Fin.sum_univ_def, List.sum_eq_foldl, List.foldl_map]

/-- The entries of a window of length `n` that ends at entry `j` of a column, those before its start counting as zero. -/
theorem window_sum (f : ℕ → EReal) (p j : ℕ) (hj : j ≤ p) :
    ∑ k ∈ Finset.range (p + 1), (if p ≤ j + k then f (j + k - p) else 0) = ∑ k ∈ Finset.range (j + 1), f k := by
  have e : p + 1 = (p - j) + (j + 1) := by omega
  rw [e, Finset.sum_range_add, Finset.sum_eq_zero, zero_add]
  · refine Finset.sum_congr rfl fun k hk => ?_
    rw [if_pos (by omega)]
    exact congrArg f (by omega)
  · intro k hk
    rw [if_neg (by have := Finset.mem_range.1 hk; omega)]

/-- A running sum along the second axis, taken over windows of the whole length padded below. -/
theorem running_sum {A N p : ℕ} (hN : p + 1 = N) {u : Shape} (x : (⟨2, ![A, N]⟩ : Shape).Idx → EReal) (f : Fin A → ℕ → EReal)
    (hx : ∀ (a : Fin A) (i : Fin N), x (ix2 a i) = f a i) (init : u.Idx → EReal)
    (h : (⟨2, ![A, N]⟩ : Shape).ReduceWindows (![1, N] : Fin 2 → ℕ) ![1, 1] ![0, p] ![0, 0] ⟨2, ![A, N]⟩) (hu : 0 < u.numel)
    (hi : init (Shape.Idx.first hu) = 0) (a : Fin A) (j : Fin N) :
    Host.reduceWindow (· + ·) ![1, N] ![1, 1] ![0, p] ![0, 0] x init h hu (ix2 a j) = ∑ k ∈ Finset.range (j.val + 1), f a k := by
  have hj := j.isLt
  unfold Host.reduceWindow
  simp only [hi]
  refine (foldl_sum _).trans ?_
  let e := (Shape.rowMajor (s := ⟨2, ![1, N]⟩)).symm
  let G := fun i : (⟨2, ![1, N]⟩ : Shape).Idx => if p ≤ j.val + (i 1).val then f a (j.val + (i 1).val - p) else 0
  refine Eq.trans (Finset.sum_congr rfl fun n _ => (?_ : _ = G (e n))) ?_
  · have hw0 : (e n 0).val < 1 := (e n 0).isLt
    have hw1 : (e n 1).val < N := (e n 1).isLt
    by_cases hp : p ≤ j.val + (e n 1).val
    · have hin : ∀ b : Fin 2, ![0, p] b ≤ (ix2 a j b : ℕ) * ![1, 1] b + (e n b : ℕ)
          ∧ (ix2 a j b : ℕ) * ![1, 1] b + (e n b : ℕ) - ![0, p] b < ![A, N] b := by
        intro b
        match b with
        | ⟨0, _⟩ =>
          show 0 ≤ a.val * 1 + (e n 0).val ∧ a.val * 1 + (e n 0).val - 0 < A
          have := a.isLt
          omega
        | ⟨1, _⟩ =>
          show p ≤ j.val * 1 + (e n 1).val ∧ j.val * 1 + (e n 1).val - p < N
          omega
      refine (dif_pos hin).trans (Eq.trans ?_ (if_pos hp).symm)
      refine (congrArg x (funext fun b => Fin.ext ?_)).trans (hx a ⟨j.val + (e n 1).val - p, by omega⟩)
      match b with
      | ⟨0, _⟩ => show a.val * 1 + (e n 0).val - 0 = a.val; omega
      | ⟨1, _⟩ => show j.val * 1 + (e n 1).val - p = j.val + (e n 1).val - p; omega
    · refine (dif_neg fun hin => hp ?_).trans (if_neg hp).symm
      have h1 : p ≤ j.val * 1 + (e n 1).val := (hin 1).1
      omega
  · refine (Equiv.sum_comp e G).trans ?_
    rw [sum_idx2, Fintype.sum_unique]
    show (∑ b : Fin N, if p ≤ j.val + b.val then f a (j.val + b.val - p) else 0) = _
    rw [Fin.sum_univ_eq_sum_range (fun b => if p ≤ j.val + b then f a (j.val + b - p) else 0) N]
    have w := window_sum (f a) p j.val (by omega)
    rw [hN] at w
    exact w

/-- The same of the host's sum over windows. -/
theorem running_add {A N p : ℕ} (hN : p + 1 = N) {u : Shape} (x : FVec Ideal ⟨2, ![A, N]⟩ .f32) (f : Fin A → ℕ → EReal)
    (hx : ∀ (a : Fin A) (i : Fin N), x (ix2 a i) = f a i) (init : FVec Ideal u .f32)
    (h : (⟨2, ![A, N]⟩ : Shape).ReduceWindows (![1, N] : Fin 2 → ℕ) ![1, 1] ![0, p] ![0, 0] ⟨2, ![A, N]⟩) (hu : 0 < u.numel)
    (hi : init (Shape.Idx.first hu) = 0) (a : Fin A) (j : Fin N) :
    Host.reduceWindowAdd ![1, N] ![1, 1] ![0, p] ![0, 0] x init h hu (ix2 a j) = ∑ k ∈ Finset.range (j.val + 1), f a k := by
  unfold Host.reduceWindowAdd
  rw [hi]
  exact running_sum hN x f hx (fun _ : (⟨0, ![]⟩ : Shape).Idx => (0 : EReal)) h (by decide) rfl a j

end Cert.Gate

end
-- ==== Proof.ProjRef.lean ====
/- The reference of the input projection at the extended reals, in stages: the norm, the product with the weights, the
   columns it returns, and the running sum of the forget gates' logarithms. -/
module

public import proofs.«01_k».proof.Proof.Gen.ProjRefIdeal.Run
public import proofs.«01_k».proof.Proof.Gate

@[expose] public section

set_option maxRecDepth 16384

noncomputable section

open Idealize.ShloMosaic Idealize.ShloMosaic.TcCoe Idealize.SL.Sem

namespace Cert.ProjRefIdeal.Stages

open Cert.ProjRefIdeal Cert.ProjRefIdeal.Gen

/-- The root-mean-square norm of every row, with its gain. -/
def normed (Y : FVec Ideal S16384x1024 .f32) (g : FVec Ideal S1024 .f32) : FVec Ideal S16384x1024 .f32 :=
  mulf (mulf Y (broadcastInDim S16384x1024 ![0, 1] bcast_S16384x1_S16384x1024_0_1 (Host.rsqrt (addf (Host.divf
      (broadcastInDim S16384x1 ![0] bcast_S16384_S16384x1_0
        (Host.reduceAdd (mulf Y Y) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1
      (broadcastInDim S1x1024 ![1] bcast_S1024_S1x1024_1 g))

/-- All the projections of the normed stream. -/
def product (X : FVec Ideal S1x16384x1024 .f32) (g : FVec Ideal S1x1024 .f32) (W : FVec Ideal S1x1024x3080 .f32) :
    FVec Ideal S16384x3080 .f32 :=
  Host.dotGeneral dot_S16384x1024_S1024x3080_S16384x3080_1_0_0_1_n_n none
    (normed (shapeCast _ X shapeCasts_S1x16384x1024_S16384x1024) (shapeCast _ g shapeCasts_S1x1024_S1024))
    (shapeCast _ W shapeCasts_S1x1024x3080_S1024x3080)

/-- The columns on either side of the forget gates'. -/
def packed (P : FVec Ideal S16384x3080 .f32) : FVec Ideal S16384x3072 .bf16 :=
  truncf .bf16 (concatenate S16384x3072 1
    [⟨S16384x1536, extractStridedSlice S16384x1536 ![0, 0] P slices_S16384x3080_S16384x1536_0_0⟩,
      ⟨S16384x1536, extractStridedSlice S16384x1536 ![0, 1544] P slices_S16384x3080_S16384x1536_0_1544⟩]
    concatenates_S16384x1536_S16384x1536_S16384x3072_d1) bitsLt_bf16_f32

/-- The forget gates before the logistic function. -/
def gates (P : FVec Ideal S16384x3080 .f32) (b : FVec Ideal S1x8 .f32) : FVec Ideal S16384x8 .f32 :=
  addf (extractStridedSlice S16384x8 ![0, 1536] P slices_S16384x3080_S16384x8_0_1536)
    (broadcastInDim S16384x8 ![0, 1] bcast_S1x8_S16384x8_0_1 (broadcastInDim S1x8 ![1] bcast_S8_S1x8_1
      (shapeCast _ b shapeCasts_S1x8_S8)))

/-- The logarithm of the logistic function. -/
def logGates (Z : FVec Ideal S16384x8 .f32) : FVec Ideal S16384x8 .f32 :=
  Host.negf (select
    (cmpf .une (subf (Host.negf Z) (broadcastInDim S16384x8 ![] bcast_S_S16384x8 (constant S_ .f32 0x00000000#32)))
      (subf (Host.negf Z) (broadcastInDim S16384x8 ![] bcast_S_S16384x8 (constant S_ .f32 0x00000000#32))))
    (addf (Host.negf Z) (broadcastInDim S16384x8 ![] bcast_S_S16384x8 (constant S_ .f32 0x00000000#32)))
    (addf (maximumf (Host.negf Z) (broadcastInDim S16384x8 ![] bcast_S_S16384x8 (constant S_ .f32 0x00000000#32)))
      (Host.log1p (Host.exp (Host.negf (Host.absf
        (subf (Host.negf Z) (broadcastInDim S16384x8 ![] bcast_S_S16384x8 (constant S_ .f32 0x00000000#32)))))))))

/-- Their running sum over the positions, a row to a head. -/
def running (L : FVec Ideal S16384x8 .f32) : FVec Ideal S8x16384 .f32 :=
  Host.reduceWindowAdd ![1, 16384] ![1, 1] ![0, 16383] ![0, 0]
    (transpose S8x16384 [1, 0] L transposes_S16384x8_S8x16384_1_0)
    (broadcastInDim S_ ![] bcast_S_S_ (constant S_ .f32 0x00000000#32)) reduceWindows_S8x16384_S8x16384_w1s1p0_0_w16384s1p16383_0 h_S_

/-- The first result is its stages one after the other. -/
theorem res_packed (m : (ℓ : Loc nD τ sig) → Buf (Elt Ideal) ℓ) (c : Dev nD) :
    truncf .bf16 (concatenate S16384x3072 1
      [⟨S16384x1536, extractStridedSlice S16384x1536 ![0, 0] (product (m ((c.tc : Thread nD τ).loc main_arg0))
        (m ((c.tc : Thread nD τ).loc main_arg1)) (m ((c.tc : Thread nD τ).loc main_arg2))) slices_S16384x3080_S16384x1536_0_0⟩,
        ⟨S16384x1536, extractStridedSlice S16384x1536 ![0, 1544] (product (m ((c.tc : Thread nD τ).loc main_arg0))
        (m ((c.tc : Thread nD τ).loc main_arg1)) (m ((c.tc : Thread nD τ).loc main_arg2))) slices_S16384x3080_S16384x1536_0_1544⟩]
      concatenates_S16384x1536_S16384x1536_S16384x3072_d1) bitsLt_bf16_f32
    = packed (product (m ((c.tc : Thread nD τ).loc main_arg0)) (m ((c.tc : Thread nD τ).loc main_arg1))
        (m ((c.tc : Thread nD τ).loc main_arg2))) := rfl

/-- The second result is its stages one after the other. -/
theorem res_running (m : (ℓ : Loc nD τ sig) → Buf (Elt Ideal) ℓ) (c : Dev nD) :
    Value.res_out1 m c = running (logGates (gates
      (product (m ((c.tc : Thread nD τ).loc main_arg0)) (m ((c.tc : Thread nD τ).loc main_arg1))
        (m ((c.tc : Thread nD τ).loc main_arg2))) (m ((c.tc : Thread nD τ).loc main_arg3)))) := rfl

/-- The logarithm of a head's forget gate at a position. -/
def logGate (P : FVec Ideal S16384x3080 .f32) (b : FVec Ideal S1x8 .f32) (h : Fin 8) (s : ℕ) : EReal :=
  if hs : s < 16384 then
    Cert.Gate.logSigmoid (P (ix2 (⟨s, hs⟩ : Fin 16384) (⟨1536 + h.val, by omega⟩ : Fin 3080)) + b (ix2 (0 : Fin 1) h))
  else 0

theorem logGate_ne_top (P : FVec Ideal S16384x3080 .f32) (b : FVec Ideal S1x8 .f32) (h : Fin 8) (s : ℕ) :
    logGate P b h s ≠ ⊤ := by
  unfold logGate
  split
  · exact Cert.Gate.logSigmoid_ne_top _
  · exact EReal.zero_ne_top

theorem gates_apply (P : FVec Ideal S16384x3080 .f32) (b : FVec Ideal S1x8 .f32) (h : Fin 8) (s : Fin 16384) :
    gates P b (ix2 s h) = P (ix2 s (⟨1536 + h.val, by omega⟩ : Fin 3080)) + b (ix2 (0 : Fin 1) h) := by
  pointwise [gates]

theorem logGates_apply (P : FVec Ideal S16384x3080 .f32) (b : FVec Ideal S1x8 .f32) (h : Fin 8) (s : Fin 16384) :
    logGates (gates P b) (ix2 s h) = logGate P b h s := by
  have hz := gates_apply P b h s
  generalize gates P b = Z at hz ⊢
  pointwise [logGates]
  rw [hz, if_neg (not_not.2 rfl)]
  unfold logGate
  rw [dif_pos s.isLt]
  exact Cert.Gate.neg_softplus _

/-- The running sum at a position adds up the head's gates up to it. -/
theorem running_apply (P : FVec Ideal S16384x3080 .f32) (b : FVec Ideal S1x8 .f32) (h : Fin 8) (n : Fin 16384) :
    running (logGates (gates P b)) (ix2 h n) = ∑ k ∈ Finset.range (n.val + 1), logGate P b h k := by
  have hL : ∀ (a : Fin 8) (i : Fin 16384), (transpose S8x16384 [1, 0] (logGates (gates P b)) transposes_S16384x8_S8x16384_1_0)
      (ix2 a i) = logGate P b a i := by
    intro a i
    rw [← logGates_apply]
    generalize logGates (gates P b) = L
    pointwise
  unfold running
  generalize transpose S8x16384 [1, 0] (logGates (gates P b)) transposes_S16384x8_S8x16384_1_0 = T at hL ⊢
  have hi : (broadcastInDim S_ ![] bcast_S_S_ (constant (F := Ideal) S_ .f32 0x00000000#32)) (Shape.Idx.first h_S_) = 0 := by
    pointwise
  have hN : 16383 + 1 = 16384 := by norm_num
  exact Cert.Gate.running_add hN T (logGate P b) hL _ _ _ hi h n

end Cert.ProjRefIdeal.Stages

end
-- ==== Proof.ProjValue.lean ====
/- The input projection at the extended reals: what the kernel leaves in its two result arrays is the reference's value of
   the same arguments. -/
module

public import proofs.«01_k».proof.Proof.Gen.ProjIdeal.Value
public import proofs.«01_k».proof.Proof.ProjRef

@[expose] public section

set_option maxRecDepth 16384

noncomputable section

open Idealize.ShloMosaic Idealize.ShloMosaic.TcCoe Idealize.SL.Sem
open Idealize.ShloMosaic.Pipeline (Dat)

namespace Cert.ProjIdeal.Rows

open Cert.ProjIdeal Cert.ProjIdeal.Gen Cert.ProjRefIdeal.Stages

variable (m : (ℓ : Loc nD τ sig) → Buf (Elt Ideal) ℓ)

/-- Which block of its array each window stages at a grid point. -/
theorem idx_val : ∀ t : Fin cfg0.N, win0_0.index t = ![t.val, 0] ∧ win0_1.index t = ![0, 0]
    ∧ win0_2.index t = ![0, 0] ∧ win0_3.index t = ![0, 0] ∧ win0_4.index t = ![t.val, 0] ∧ win0_5.index t = ![0, t.val] :=
  (by decide +kernel : ∀ t : Fin grid0.N, _)

/-- All the projections of the launch's arguments. -/
abbrev productOf (c : Dev nD) : FVec Ideal Cert.ProjRefIdeal.S16384x3080 .f32 :=
  product (m ((c : Thread nD τ).loc main_arg0)) (m ((c : Thread nD τ).loc main_arg1)) (m ((c : Thread nD τ).loc main_arg2))

/-- Where the kernel's rearranged weights take a column from. -/
def source (j : ℕ) : ℕ := if j < 1536 then j else if j < 3072 then j + 8 else j - 1536

/-- The weights as the launch rearranges them: the gates' columns last, then zeros. -/
def rearranged (W : FVec Ideal S1x1024x3080 .f32) : FVec Ideal S1024x3200 .bf16 :=
  truncf .bf16 (concatenate S1024x3200 1
    [⟨S1024x1536, extractStridedSlice S1024x1536 ![0, 0] (shapeCast S1024x3080 W shapeCasts_S1x1024x3080_S1024x3080) slices_S1024x3080_S1024x1536_0_0⟩,
      ⟨S1024x1536, extractStridedSlice S1024x1536 ![0, 1544] (shapeCast S1024x3080 W shapeCasts_S1x1024x3080_S1024x3080) slices_S1024x3080_S1024x1536_0_1544⟩,
      ⟨S1024x8, extractStridedSlice S1024x8 ![0, 1536] (shapeCast S1024x3080 W shapeCasts_S1x1024x3080_S1024x3080) slices_S1024x3080_S1024x8_0_1536⟩,
      ⟨S1024x120, broadcastInDim S1024x120 ![] bcast_S_S1024x120 (constant S_ .f32 0x00000000#32)⟩]
    concatenates_S1024x1536_S1024x1536_S1024x8_S1024x120_S1024x3200_d1) bitsLt_bf16_f32

/-- The gates' biases followed by zeros. -/
def padded (b : FVec Ideal S1x8 .f32) : FVec Ideal S1x128 .f32 :=
  shapeCast S1x128 (pad S128 ![0] ![120] ![0] (shapeCast S8 b shapeCasts_S1x8_S8) (sitofp .f32 (constantI S_ 32 0#32))
    pads_S8_S128_01200 h_S_) shapeCasts_S128_S1x128

theorem V_stream (c : Dev nD) : V m c main_v0
    = shapeCast S16384x1024 (m ((c : Thread nD τ).loc main_arg0)) shapeCasts_S1x16384x1024_S16384x1024 := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

theorem V_gain (c : Dev nD) : V m c main_v12
    = shapeCast S1x1024 (shapeCast S1024 (m ((c : Thread nD τ).loc main_arg1)) shapeCasts_S1x1024_S1024) shapeCasts_S1024_S1x1024 := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

theorem V_weights (c : Dev nD) : V m c main_v7 = rearranged (m ((c : Thread nD τ).loc main_arg2)) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

theorem V_bias (c : Dev nD) : V m c main_v10 = padded (m ((c : Thread nD τ).loc main_arg3)) := by
  simp only [V, hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp <;> rfl

/-- A column of the rearranged weights is a column of the weights. -/
theorem rearranged_apply (W : FVec Ideal S1x1024x3080 .f32) (k : Fin 1024) (j : Fin 3200) (q : Fin 3080)
    (hq : q.val = source j.val) (hj : j.val < 3080) : rearranged W (ix2 k j) = W (ix3 (0 : Fin 1) k q) := by
  unfold source at hq
  pointwise [rearranged]
  split_ifs at hq ⊢
  all_goals first
    | omega
    | (refine congrArg (fun q => W (ix3 (0 : Fin 1) k q)) (Fin.ext ?_)
       simp only [hq] <;> split_ifs <;> omega)

theorem padded_apply (b : FVec Ideal S1x8 .f32) (h : Fin 8) :
    padded b (ix2 (0 : Fin 1) (⟨h.val, by omega⟩ : Fin 128)) = b (ix2 (0 : Fin 1) h) := by
  pointwise [padded]

/-- The block of weights is the rearranged weights. -/
theorem weight (c : Dev nD) (t : Fin cfg0.N) (k : Fin 1024) (j : Fin 3200) (q : Fin 3080) (hq : q.val = source j.val)
    (hj : j.val < 3080) :
    iblk m c 2 t (ix2 k j) = (show FVec Ideal S1x1024x3080 .f32 from m ((c : Thread nD τ).loc main_arg2)) (ix3 (0 : Fin 1) k q) := by
  have h : ∀ R : FVec Ideal S1024x3200 .bf16, V m c main_v7 = R → iblk m c 2 t (ix2 k j) = R (ix2 k j) := by
    intro R hR
    blk_point [iblk, hR, idx_val t]
  exact (h _ (V_weights m c)).trans (rearranged_apply _ k j q hq hj)

/-- The block of biases starts with the heads' biases. -/
theorem bias (c : Dev nD) (t : Fin cfg0.N) (h : Fin 8) :
    iblk m c 3 t (ix2 (0 : Fin 1) (⟨h.val, by omega⟩ : Fin 128))
      = (show FVec Ideal S1x8 .f32 from m ((c : Thread nD τ).loc main_arg3)) (ix2 (0 : Fin 1) h) := by
  have hb : ∀ R : FVec Ideal S1x128 .f32, V m c main_v10 = R → ∀ l : Fin 128, iblk m c 3 t (ix2 (0 : Fin 1) l) = R (ix2 (0 : Fin 1) l) := by
    intro R hR l
    blk_point [iblk, hR, idx_val t]
  exact (hb _ (V_bias m c) _).trans (padded_apply _ h)

theorem stream (c : Dev nD) (t : Fin cfg0.N) (r : Fin 512) (k : Fin 1024) (n : Fin 16384) (hn : n.val = t.val * 512 + r.val) :
    iblk m c 0 t (ix2 r k) = (show FVec Ideal S16384x1024 .f32 from
      shapeCast S16384x1024 (m ((c : Thread nD τ).loc main_arg0)) shapeCasts_S1x16384x1024_S16384x1024) (ix2 n k) := by
  blk_point [iblk, V_stream, idx_val t]

theorem gain (c : Dev nD) (t : Fin cfg0.N) (k : Fin 1024) :
    iblk m c 1 t (ix2 (0 : Fin 1) k)
      = (show FVec Ideal S1x1024 .f32 from m ((c : Thread nD τ).loc main_arg1)) (ix2 (0 : Fin 1) k) := by
  have h : ∀ g : FVec Ideal S1x1024 .f32, shapeCast S1x1024 (shapeCast S1024 g shapeCasts_S1x1024_S1024) shapeCasts_S1024_S1x1024
      (ix2 (0 : Fin 1) k) = g (ix2 (0 : Fin 1) k) := by
    intro g
    pointwise
  refine Eq.trans (b := shapeCast S1x1024 (shapeCast S1024 (m ((c : Thread nD τ).loc main_arg1)) shapeCasts_S1x1024_S1024)
    shapeCasts_S1024_S1x1024 (ix2 (0 : Fin 1) k)) ?_ (h _)
  blk_point [iblk, V_gain, idx_val t]

/-- A row of the block's product is a row of the product. -/
theorem product_row (c : Dev nD) (t : Fin cfg0.N) (r : Fin 512) (j : Fin 3200) (n : Fin 16384) (q : Fin 3080)
    (hn : n.val = t.val * 512 + r.val) (hq : q.val = source j.val) (hj : j.val < 3080) :
    k0_pay5 (F := Ideal) (iblk m c 0 t) (iblk m c 1 t) (iblk m c 2 t) (ix2 r j) = productOf m c (ix2 n q) := by
  have hw := fun k => weight m c t k j q hq hj
  have hg := gain m c t
  have hx := fun k => stream m c t r k n hn
  unfold productOf product
  generalize iblk m c 0 t = X at hx ⊢
  generalize iblk m c 1 t = G at hg ⊢
  generalize iblk m c 2 t = W at hw ⊢
  generalize shapeCast S16384x1024 (m ((c : Thread nD τ).loc main_arg0)) shapeCasts_S1x16384x1024_S16384x1024 = Y at hx ⊢
  pointwise [k0_pay5, normed]
  simp only [hw, hg, hx]

/-- A grid point's columns are the reference's packed columns. -/
theorem columns_point (c : Dev nD) (t : Fin cfg0.N) (y : S512x3072.Idx) (i : Cert.ProjRefIdeal.S16384x3072.Idx)
    (h0 : (i 0 : ℕ) = t.val * 512 + y 0) (h1 : (i 1 : ℕ) = y 1) :
    k0_pay6 (F := Ideal) (iblk m c 0 t) (iblk m c 1 t) (iblk m c 2 t) y = packed (productOf m c) i := by
  have hy : (y 1).val < 3072 := (y 1).isLt
  have key := fun (q : Fin 3080) (hq : q.val = source (y 1).val) =>
    product_row m c t (y 0) (⟨(y 1).val, by omega⟩ : Fin 3200) (i 0) q h0 hq (by show (y 1).val < 3080; omega)
  generalize productOf m c = P at key ⊢
  pointwise [k0_pay6, packed]
  by_cases hlt : (i 1).val < 1536
  · rw [dif_pos hlt]
    exact key _ (by simp only [source]; split_ifs <;> omega)
  · rw [dif_neg hlt]
    exact key _ (by simp only [source]; split_ifs <;> omega)

/-- A grid point's logarithms of gates are the reference's, in the heads' columns. -/
theorem gate_point (c : Dev nD) (t : Fin cfg0.N) (r : Fin 512) (h : Fin 8) :
    k0_pay7 (F := Ideal) (iblk m c 0 t) (iblk m c 1 t) (iblk m c 2 t) (iblk m c 3 t) (ix2 r (⟨h.val, by omega⟩ : Fin 128))
      = logGate (productOf m c) (m ((c : Thread nD τ).loc main_arg3)) h (t.val * 512 + r.val) := by
  have ht : t.val < 32 := lt_of_lt_of_eq t.isLt (show cfg0.N = 32 from N_0)
  have hs : t.val * 512 + r.val < 16384 := by omega
  have key := product_row m c t r (⟨3072 + h.val, by omega⟩ : Fin 3200) ⟨t.val * 512 + r.val, hs⟩ (⟨1536 + h.val, by omega⟩ : Fin 3080)
    rfl (by simp only [source]; split_ifs <;> omega) (by show 3072 + h.val < 3080; omega)
  have hb := bias m c t h
  rw [logGate, dif_pos hs, ← key]
  unfold k0_pay7
  generalize k0_pay5 (F := Ideal) (iblk m c 0 t) (iblk m c 1 t) (iblk m c 2 t) = K
  generalize iblk m c 3 t = B at hb ⊢
  pointwise
  rw [hb]
  rfl

theorem select_before (r j : Fin 512) (x : EReal) :
    Scalar.select (IntOp.cmpi .sle (BitVec.ofNat 32 r.val) (BitVec.ofNat 32 j.val)) x 0
      = x * (if r.val ≤ j.val then (1 : EReal) else 0) := by
  rw [WordCmp.cmpi_sle_ofNat (w := 32) (a := r.val) (b := j.val) (by omega) (by omega)]
  by_cases h : r.val ≤ j.val <;> simp [h, Scalar.select]

/-- The running sum within a tile, over the carried sum. -/
theorem tile_sum (L : FVec Ideal S512x128 .f32) (C : FVec Ideal S8x1 .f32) (h : Fin 8) (f : ℕ → EReal)
    (hL : ∀ r : Fin 512, L (ix2 r (⟨h.val, by omega⟩ : Fin 128)) = f r.val) (hf : ∀ k, f k ≠ ⊤) (j : Fin 512) :
    k0_pay1 (F := Ideal) L (k0_pay3 (F := Ideal)) C (ix2 h j) = (∑ k ∈ Finset.range (j.val + 1), f k) + C (ix2 h (0 : Fin 1)) := by
  rw [← Cert.Gate.masked_sum (n := 512) f j.val j.isLt hf]
  pointwise [k0_pay1, k0_pay3]
  have h1 : ¬ 16 + h.val < 8 := by omega
  have h2 : ¬ 16 + h.val - 8 < 8 := by omega
  have h3 : ∀ (x : Fin 512) (p : 16 + h.val - 8 - 8 < 128), L (ix2 x (⟨16 + h.val - 8 - 8, p⟩ : Fin 128)) = f x.val := by
    intro x p
    rw [← hL x]
    exact congrArg (fun q => L (ix2 x q)) (Fin.ext (by simp only; omega))
  simp only [select_before, dif_neg h1, dif_neg h2, h3, hL]

/-- What the tile carries on is its last column, in every lane. -/
theorem carried (L : FVec Ideal S512x128 .f32) (T : Vec Ideal S512x512 .bf16) (C : FVec Ideal S8x1 .f32) (h : Fin 8) (l : Fin 128) :
    k0_pay2 (F := Ideal) L T C (ix2 h l) = k0_pay1 L T C (ix2 h (⟨511, by omega⟩ : Fin 512)) := by
  unfold k0_pay2
  generalize k0_pay1 L T C = Y
  pointwise

theorem no_carry (h : Fin 8) (l : Fin 128) : k0_pay4 (F := Ideal) (ix2 h l) = 0 := by
  pointwise [k0_pay4]

/-- The first column of a buffer of eight rows. -/
theorem ld_column (w : Vec Ideal S8x128 .f32) (inb : ∀ a, (![0, 0] : Fin 2 → ℕ) a + (![8, 1] : Fin 2 → ℕ) a ≤ S8x128.size a) (h : Fin 8) :
    View.ld w (Rect.unit (s := S8x128) ![0, 0] ![8, 1] inb) (ix2 h (0 : Fin 1)) = w (ix2 h (0 : Fin 128)) := by
  refine congrArg w (funext fun a => Fin.ext ?_)
  match a with
  | ⟨0, _⟩ => show 0 + 1 * h.val = h.val; omega
  | ⟨1, _⟩ => rfl

theorem cov_column {κ : Kind} {sp : Space} (v : View sig κ sp S8x128 .f32) (w : Vec Ideal S8x128 .f32)
    (inb : ∀ a, (![0, 0] : Fin 2 → ℕ) a + (![8, 1] : Fin 2 → ℕ) a ≤ S8x128.size a)
    (inb' : ∀ a, (![0, 0] : Fin 2 → ℕ) a + S8x128.size a ≤ S8x128.size a) (h : Fin 8) :
    v.readCov [(⟨Rect.unit ![0, 0] S8x128.size inb', w⟩ : View.Piece (Elt Ideal) S8x128 .f32)]
      (Rect.unit (s := S8x128) ![0, 0] ![8, 1] inb).toLoadRect (ix2 h (0 : Fin 1)) = w (ix2 h (0 : Fin 128)) := by
  unfold View.readCov
  rw [View.readAt_eq_ld, View.read_writes_junk_eq_canon, View.canon_cons_unit_lit _ _ _ (by decide)]
  exact ld_column w inb h

/-- What a grid point leaves in its buffers: its columns, its running sums over the carried sum, the 0/1 matrix, and the sum to
    carry on. -/
def Leaves (c : Dev nD) (t : Fin cfg0.N) (C : FVec Ideal S8x1 .f32) : Prop :=
  (outsAt0 m c t.val t.isLt).1 = k0_pay6 (iblk m c 0 t) (iblk m c 1 t) (iblk m c 2 t)
  ∧ (outsAt0 m c t.val t.isLt).2.1
    = k0_pay1 (k0_pay7 (iblk m c 0 t) (iblk m c 1 t) (iblk m c 2 t) (iblk m c 3 t)) (k0_pay3 (F := Ideal)) C
  ∧ (outsAt0 m c t.val t.isLt).2.2.1 = k0_pay3 (F := Ideal)
  ∧ (outsAt0 m c t.val t.isLt).2.2.2
    = k0_pay2 (k0_pay7 (iblk m c 0 t) (iblk m c 1 t) (iblk m c 2 t) (iblk m c 3 t)) (k0_pay3 (F := Ideal)) C

theorem leaves_first (c : Dev nD) (t : Fin cfg0.N) (h0 : t.val % 32 = 0) :
    ∃ C : FVec Ideal S8x1 .f32, (∀ h : Fin 8, C (ix2 h (0 : Fin 1)) = 0) ∧ Leaves m c t C := by
  refine ⟨_, fun h => (cov_column (View.whole cc0_scratch1) (k0_pay4 (F := Ideal)) inb_S8x128_S8x1_0_0 inb_S8x128_S8x128_0_0 h).trans
    (no_carry h 0), ?_⟩
  unfold Leaves
  rw [outsAt0_A m c t h0]
  dsimp only
  refine ⟨?_, ?_, ?_, ?_⟩
  · frame_out
  · frame_out
  · frame_out
  · frame_out

theorem leaves_next (c : Dev nD) (t : Fin cfg0.N) (h0 : ¬ t.val % 32 = 0) (hp : t.val - 1 < cfg0.N)
    (hT : (outsAt0 m c (t.val - 1) hp).2.2.1 = k0_pay3 (F := Ideal)) :
    ∃ C : FVec Ideal S8x1 .f32, (∀ h : Fin 8, C (ix2 h (0 : Fin 1)) = (outsAt0 m c (t.val - 1) hp).2.2.2 (ix2 h (0 : Fin 128)))
      ∧ Leaves m c t C := by
  refine ⟨_, fun h => ld_column _ inb_S8x128_S8x1_0_0 h, ?_⟩
  unfold Leaves
  rw [outsAt0_B m c t h0]
  dsimp only
  refine ⟨?_, ?_, ?_, ?_⟩
  · frame_out
  · frame_out
    exact congrArg₂ (k0_pay1 _) ((Memref.IsWhole.read_unread _ _).trans hT)
      (congrArg (fun X : Vec Ideal S8x128 .f32 => View.ld X (Rect.unit ![0, 0] ![8, 1] inb_S8x128_S8x1_0_0)) (Memref.IsWhole.read_unread _ _))
  · exact hT
  · frame_out
    exact congrArg₂ (k0_pay2 _) ((Memref.IsWhole.read_unread _ _).trans hT)
      (congrArg (fun X : Vec Ideal S8x128 .f32 => View.ld X (Rect.unit ![0, 0] ![8, 1] inb_S8x128_S8x1_0_0)) (Memref.IsWhole.read_unread _ _))

/-- A head's running sum over the first positions. -/
def upTo (c : Dev nD) (h : Fin 8) (n : ℕ) : EReal :=
  ∑ k ∈ Finset.range n, logGate (productOf m c) (m ((c : Thread nD τ).loc main_arg3)) h k

/-- A grid point adds its tile's running sums to what it is carried. -/
theorem tile (c : Dev nD) (t : Fin cfg0.N) (C : FVec Ideal S8x1 .f32) (h : Fin 8)
    (hC : C (ix2 h (0 : Fin 1)) = upTo m c h (t.val * 512)) (j : Fin 512) :
    k0_pay1 (F := Ideal) (k0_pay7 (iblk m c 0 t) (iblk m c 1 t) (iblk m c 2 t) (iblk m c 3 t)) (k0_pay3 (F := Ideal)) C (ix2 h j)
      = upTo m c h (t.val * 512 + j.val + 1) := by
  rw [tile_sum _ C h (fun k => logGate (productOf m c) (m ((c : Thread nD τ).loc main_arg3)) h (t.val * 512 + k))
    (fun r => gate_point m c t r h) (fun k => logGate_ne_top _ _ _ _) j, hC, add_comm]
  unfold upTo
  rw [add_assoc]
  exact (Finset.sum_range_add _ (t.val * 512) (j.val + 1)).symm

/-- After every grid point: its running sums, and the carried sum. -/
theorem sums (c : Dev nD) : ∀ (n : ℕ) (hn : n < cfg0.N),
    (outsAt0 m c n hn).2.2.1 = k0_pay3 (F := Ideal)
    ∧ (∀ (h : Fin 8) (l : Fin 128), (outsAt0 m c n hn).2.2.2 (ix2 h l) = upTo m c h ((n + 1) * 512))
    ∧ (∀ (h : Fin 8) (j : Fin 512), (outsAt0 m c n hn).2.1 (ix2 h j) = upTo m c h (n * 512 + j.val + 1))
    ∧ (outsAt0 m c n hn).1 = k0_pay6 (iblk m c 0 ⟨n, hn⟩) (iblk m c 1 ⟨n, hn⟩) (iblk m c 2 ⟨n, hn⟩) := by
  have key : ∀ (n : ℕ) (hn : n < cfg0.N) (C : FVec Ideal S8x1 .f32), (∀ h : Fin 8, C (ix2 h (0 : Fin 1)) = upTo m c h (n * 512)) →
      Leaves m c ⟨n, hn⟩ C → (outsAt0 m c n hn).2.2.1 = k0_pay3 (F := Ideal)
    ∧ (∀ (h : Fin 8) (l : Fin 128), (outsAt0 m c n hn).2.2.2 (ix2 h l) = upTo m c h ((n + 1) * 512))
    ∧ (∀ (h : Fin 8) (j : Fin 512), (outsAt0 m c n hn).2.1 (ix2 h j) = upTo m c h (n * 512 + j.val + 1))
    ∧ (outsAt0 m c n hn).1 = k0_pay6 (iblk m c 0 ⟨n, hn⟩) (iblk m c 1 ⟨n, hn⟩) (iblk m c 2 ⟨n, hn⟩) := by
    intro n hn C hC ⟨h1, h2, h3, h4⟩
    refine ⟨h3, fun h l => ?_, fun h j => ?_, h1⟩
    · refine (congrFun h4 _).trans ((carried _ _ _ h l).trans ((tile m c ⟨n, hn⟩ C h (hC h) _).trans ?_))
      exact congrArg (upTo m c h) (by show n * 512 + 511 + 1 = (n + 1) * 512; omega)
    · exact (congrFun h2 _).trans (tile m c ⟨n, hn⟩ C h (hC h) j)
  intro n
  induction n with
  | zero =>
    intro hn
    obtain ⟨C, hC, hL⟩ := leaves_first m c ⟨0, hn⟩ (Nat.zero_mod _)
    exact key 0 hn C (fun h => (hC h).trans (by simp [upTo])) hL
  | succ n ih =>
    intro hn
    have hN : n + 1 < 32 := lt_of_lt_of_eq hn (show cfg0.N = 32 from N_0)
    obtain ⟨hT, hS, _, _⟩ := ih (by omega)
    obtain ⟨C, hC, hL⟩ := leaves_next m c ⟨n + 1, hn⟩ (by show ¬ (n + 1) % 32 = 0; omega) (by show n + 1 - 1 < cfg0.N; omega) hT
    exact key (n + 1) hn C (fun h => (hC h).trans (hS h 0)) hL

/-- The kernel's columns are the reference's packed columns. -/
theorem final_columns (c : Dev nD) : (dats m 0 c).arrAt 4 (cfgs 0).N = packed (productOf m c) := by
  refine (dats m 0 c).arrAt_eq_of_covers 4 _ (by decide +kernel) fun t _ y => ?_
  blk_simp
  rw [after0_4, (sums m c t.val t.isLt).2.2.2]
  exact columns_point m c t y _ (by blk_simp [idx_val t]) (by blk_simp [idx_val t])

/-- A grid point's running sums are the reference's. -/
theorem sums_point (c : Dev nD) (t : Fin cfg0.N) (y : S8x512.Idx) (i : Cert.ProjRefIdeal.S8x16384.Idx)
    (h0 : (i 0 : ℕ) = y 0) (h1 : (i 1 : ℕ) = t.val * 512 + y 1) : (outsAt0 m c t.val t.isLt).2.1 y
    = running (logGates (gates (productOf m c) (m ((c : Thread nD τ).loc main_arg3)))) i := by
  obtain ⟨h, j, rfl⟩ : ∃ (h : Fin 8) (j : Fin 512), y = ix2 h j := ⟨y 0, y 1, by pointwise⟩
  obtain ⟨g, n, rfl⟩ : ∃ (g : Fin 8) (n : Fin 16384), i = ix2 g n := ⟨i 0, i 1, by pointwise⟩
  obtain rfl : g = h := Fin.ext h0
  rw [(sums m c t.val t.isLt).2.2.1 g j, running_apply]
  exact congrArg (upTo m c g) (by have : n.val = t.val * 512 + j.val := h1; omega)

/-- The kernel's running sums are the reference's. -/
theorem final_sums (c : Dev nD) : (dats m 0 c).arrAt 5 (cfgs 0).N
    = running (logGates (gates (productOf m c) (m ((c : Thread nD τ).loc main_arg3)))) := by
  refine (dats m 0 c).arrAt_eq_of_covers 5 _ (by decide +kernel) fun t _ y => ?_
  blk_simp
  rw [after0_5]
  exact sums_point m c t y _ (by blk_simp [idx_val t]) (by blk_simp [idx_val t])

end Cert.ProjIdeal.Rows

end
-- ==== Proof.ProjClaims.lean ====
/- The claims about the input projection with its forget gates: the three programs run without a fault and keep their
   arguments, and at the extended reals the kernel's two results are the reference's. -/
module

public import proofs.«01_k».proof.Defs
public import proofs.«01_k».proof.Proof.Gen.Proj.Frame
public import proofs.«01_k».proof.Proof.ProjValue
public import Idealize.ShloMosaic.Lib.Claim

@[expose] public section

set_option maxRecDepth 16384

noncomputable section

namespace Cert.Proof

open Idealize.ShloMosaic Idealize.ShloMosaic.TcCoe Idealize.SL.Sem

theorem frame_proj : Cert.quiescent_Proj (hProj := Cert.Proj.Gen.facts) := fun m ρ _ => Cert.Proj.Gen.frame m ρ

theorem frame_proj_ideal : Cert.quiescent_ProjIdeal (hProjIdeal := Cert.ProjIdeal.Gen.facts) :=
  fun m ρ _ => Cert.ProjIdeal.Gen.frame m ρ

theorem frame_proj_reference : Cert.quiescent_ProjRefIdeal (hProjRefIdeal := Cert.ProjRefIdeal.Gen.facts) :=
  fun m ρ _ => (θ_run Cert.ProjRefIdeal.defs _ _).mono
    (fun r h => ⟨fun c => (h c).2.2, Idealize.ShloMosaic.sem_eq_zero_of_no_sems (by decide) r.2⟩)
    (Cert.ProjRefIdeal.Value.run (F := Ideal) m ρ)

theorem preserves_proj : Cert.preserves_Proj_ProjIdeal := trivial

theorem algebraic_proj : Cert.algebraic_ProjIdeal_ProjRefIdeal (hProjIdeal := Cert.ProjIdeal.Gen.facts)
    (hProjRefIdeal := Cert.ProjRefIdeal.Gen.facts) := by
  intro m g m' g' hpre hagree
  refine ⟨fun c => Cert.ProjRefIdeal.Stages.packed (Cert.ProjIdeal.Rows.productOf m c),
    fun c => Cert.ProjRefIdeal.Stages.running (Cert.ProjRefIdeal.Stages.logGates (Cert.ProjRefIdeal.Stages.gates
      (Cert.ProjIdeal.Rows.productOf m c) (m ((c.tc : Thread _ _).loc Cert.ProjIdeal.main_arg3)))),
    (θ_run Cert.ProjIdeal.defs _ _).mono (fun r h c => ⟨(h c).1.trans ?_, (h c).2.1.trans ?_, (h c).2.2⟩)
      (Cert.ProjIdeal.Value.run_blocks (F := Ideal) m g),
    (θ_run Cert.ProjRefIdeal.defs _ _).mono (fun r h c => ⟨(h c).1.trans ?_, (h c).2.1.trans ?_, (h c).2.2⟩)
      (Cert.ProjRefIdeal.Value.run (F := Ideal) m' g')⟩
  · exact Cert.ProjIdeal.Rows.final_columns m c
  · exact Cert.ProjIdeal.Rows.final_sums m c
  · obtain ⟨h0, h1, h2, h3⟩ := hagree c
    refine (Cert.ProjRefIdeal.Stages.res_packed m' c).trans ?_
    rw [h0, h1, h2]
  · obtain ⟨h0, h1, h2, h3⟩ := hagree c
    refine (Cert.ProjRefIdeal.Stages.res_running m' c).trans ?_
    rw [h0, h1, h2, h3]

end Cert.Proof

end
-- ==== Proof.lean ====
/- The claims of the certificate, each from its own module. -/
module

public import proofs.«01_k».proof.Defs
public import proofs.«01_k».proof.Proof.Gen.FoxIdeal.Value
public import proofs.«01_k».proof.Proof.Gen.FoxRefIdeal.Run
public import proofs.«01_k».proof.Proof.Gen.DiffIdeal.Value
public import proofs.«01_k».proof.Proof.Gen.DiffRefIdeal.Run
public import proofs.«01_k».proof.Proof.Gen.FfnIdeal.Value
public import proofs.«01_k».proof.Proof.Gen.FfnRefIdeal.Run
public import proofs.«01_k».proof.Proof.Gen.ProjIdeal.Value
public import proofs.«01_k».proof.Proof.Gen.ProjRefIdeal.Run
public import proofs.«01_k».proof.Proof.Gen.Proj.Frame
public import proofs.«01_k».proof.Proof.Gen.Fox.Frame
public import proofs.«01_k».proof.Proof.Gen.Diff.Frame
public import proofs.«01_k».proof.Proof.FoxClaims
public import proofs.«01_k».proof.Proof.DiffClaims
public import proofs.«01_k».proof.Proof.FfnClaims
public import proofs.«01_k».proof.Proof.ProjClaims

@[expose] public section

noncomputable section

namespace Cert.Proof

theorem claim : Cert.Claim :=
  ⟨Cert.Fox.Gen.facts, Cert.FoxIdeal.Gen.facts, Cert.FoxRefIdeal.Gen.facts, Cert.Diff.Gen.facts, Cert.DiffIdeal.Gen.facts,
    Cert.DiffRefIdeal.Gen.facts, Cert.Ffn.Gen.facts, Cert.FfnIdeal.Gen.facts, Cert.FfnRefIdeal.Gen.facts,
    Cert.Proj.Gen.facts, Cert.ProjIdeal.Gen.facts, Cert.ProjRefIdeal.Gen.facts, Cert.Finite.facts, Cert.Finite.facts2,
    frame_fox, frame_fox_ideal, frame_fox_ideal_finite, frame_fox_reference, frame_fox_reference_finite,
    frame_diff, frame_diff_ideal, frame_diff_ideal_finite, frame_diff_reference, frame_diff_reference_finite,
    frame_ffn, frame_ffn_ideal, frame_ffn_reference,
    frame_proj, frame_proj_ideal, frame_proj_reference,
    preserves_fox, algebraic_fox, preserves_diff, algebraic_diff, preserves_ffn, algebraic_ffn,
    preserves_proj, algebraic_proj⟩

end Cert.Proof

end
